-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v108_17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S524288x3 : Shape := ⟨2, ![524288, 3]⟩
abbrev S3x32 : Shape := ⟨2, ![3, 32]⟩
abbrev S32 : Shape := ⟨1, ![32]⟩
abbrev S32x6 : Shape := ⟨2, ![32, 6]⟩
abbrev S6 : Shape := ⟨1, ![6]⟩
abbrev S6x32 : Shape := ⟨2, ![6, 32]⟩
abbrev S32x3 : Shape := ⟨2, ![32, 3]⟩
abbrev S3 : Shape := ⟨1, ![3]⟩
abbrev S6x6 : Shape := ⟨2, ![6, 6]⟩
abbrev S3x3 : Shape := ⟨2, ![3, 3]⟩
abbrev S_ : Shape := ⟨0, ![]⟩
abbrev S1x1 : Shape := ⟨2, ![1, 1]⟩

class Facts : Prop where
  bcast_S_S3x3 : S_.BroadcastsInDim S3x3 (![] : Fin 0 → Fin S3x3.rank)
  slices_S3x3_S1x1_0_0 : S3x3.Slices ![0, 0] S1x1
  shapeCasts_S1x1_S_ : S1x1.ShapeCasts S_
  slices_S3x3_S1x1_1_1 : S3x3.Slices ![1, 1] S1x1
  slices_S3x3_S1x1_2_2 : S3x3.Slices ![2, 2] S1x1
  slices_S3x3_S1x1_1_2 : S3x3.Slices ![1, 2] S1x1
  slices_S3x3_S1x1_2_1 : S3x3.Slices ![2, 1] S1x1
  slices_S3x3_S1x1_0_1 : S3x3.Slices ![0, 1] S1x1
  slices_S3x3_S1x1_1_0 : S3x3.Slices ![1, 0] S1x1
  slices_S3x3_S1x1_2_0 : S3x3.Slices ![2, 0] S1x1
  slices_S3x3_S1x1_0_2 : S3x3.Slices ![0, 2] S1x1
  bcast_S_S524288x3 : S_.BroadcastsInDim S524288x3 (![] : Fin 0 → Fin S524288x3.rank)
  bcast_S_S3x32 : S_.BroadcastsInDim S3x32 (![] : Fin 0 → Fin S3x32.rank)
  bcast_S_S32 : S_.BroadcastsInDim S32 (![] : Fin 0 → Fin S32.rank)
  bcast_S_S32x6 : S_.BroadcastsInDim S32x6 (![] : Fin 0 → Fin S32x6.rank)
  bcast_S_S6 : S_.BroadcastsInDim S6 (![] : Fin 0 → Fin S6.rank)
  bcast_S_S6x32 : S_.BroadcastsInDim S6x32 (![] : Fin 0 → Fin S6x32.rank)
  bcast_S_S32x3 : S_.BroadcastsInDim S32x3 (![] : Fin 0 → Fin S32x3.rank)
  bcast_S_S3 : S_.BroadcastsInDim S3 (![] : Fin 0 → Fin S3.rank)

variable [Facts]

def fn_part4 {F : FTy → Type} [FloatOps F] (main_arg11 : FVec F S32x3 .f32) (main_arg12 : FVec F S3 .f32) (main_arg14 : FVec F S3x3 .f32) (main_v52 : FVec F S_ .f32) (main_v55 : IVec S524288x3 1) (main_v58 : IVec S3x32 1) (main_v61 : IVec S32 1) (main_v64 : IVec S32x6 1) (main_v67 : IVec S6 1) (main_v70 : IVec S6x32 1) (main_v73 : IVec S32 1) (main_v76 : IVec S32x6 1) (main_v79 : IVec S6 1) (main_v82 : IVec S6x32 1) (main_v83 : FVec F S32 .f32) : IVec S524288x3 1 × IVec S3x32 1 × IVec S32 1 × IVec S32x6 1 × IVec S6 1 × IVec S6x32 1 × IVec S32 1 × IVec S32x6 1 × IVec S6 1 × IVec S6x32 1 × IVec S32 1 × IVec S32x3 1 × IVec S3 1 × IVec S3x3 1 × IVec S_ 1 :=
  let main_cst_10 : FVec F S_ .f32 := constant S_ .f32 0x7F800000#32
  let main_v84 : FVec F S32 .f32 := broadcastInDim S32 ![] bcast_S_S32 main_cst_10
  let main_v85 : IVec S32 1 := cmpf .olt main_v83 main_v84
  let main_v86 : FVec F S32x3 .f32 := Host.absf main_arg11
  let main_cst_11 : FVec F S_ .f32 := constant S_ .f32 0x7F800000#32
  let main_v87 : FVec F S32x3 .f32 := broadcastInDim S32x3 ![] bcast_S_S32x3 main_cst_11
  let main_v88 : IVec S32x3 1 := cmpf .olt main_v86 main_v87
  let main_v89 : FVec F S3 .f32 := Host.absf main_arg12
  let main_cst_12 : FVec F S_ .f32 := constant S_ .f32 0x7F800000#32
  let main_v90 : FVec F S3 .f32 := broadcastInDim S3 ![] bcast_S_S3 main_cst_12
  let main_v91 : IVec S3 1 := cmpf .olt main_v89 main_v90
  let main_v92 : FVec F S3x3 .f32 := Host.absf main_arg14
  let main_cst_13 : FVec F S_ .f32 := constant S_ .f32 0x7F800000#32
  let main_v93 : FVec F S3x3 .f32 := broadcastInDim S3x3 ![] bcast_S_S3x3 main_cst_13
  let main_v94 : IVec S3x3 1 := cmpf .olt main_v92 main_v93
  let main_cst_14 : FVec F S_ .f32 := constant S_ .f32 0x00000000#32
  let main_v95 : IVec S_ 1 := cmpf .une main_v52 main_cst_14
  (main_v55, main_v58, main_v61, main_v64, main_v67, main_v70, main_v73, main_v76, main_v79, main_v82, main_v85, main_v88, main_v91, main_v94, main_v95)

def fn_part3 {F : FTy → Type} [FloatOps F] (main_arg5 : FVec F S6x32 .f32) (main_arg6 : FVec F S32 .f32) (main_arg7 : FVec F S32x6 .f32) (main_arg8 : FVec F S6 .f32) (main_arg9 : FVec F S6x32 .f32) (main_arg10 : FVec F S32 .f32) (main_arg11 : FVec F S32x3 .f32) (main_arg12 : FVec F S3 .f32) (main_arg14 : FVec F S3x3 .f32) (main_v52 : FVec F S_ .f32) (main_v55 : IVec S524288x3 1) (main_v58 : IVec S3x32 1) (main_v61 : IVec S32 1) (main_v64 : IVec S32x6 1) (main_v65 : FVec F S6 .f32) : IVec S524288x3 1 × IVec S3x32 1 × IVec S32 1 × IVec S32x6 1 × IVec S6 1 × IVec S6x32 1 × IVec S32 1 × IVec S32x6 1 × IVec S6 1 × IVec S6x32 1 × IVec S32 1 × IVec S32x3 1 × IVec S3 1 × IVec S3x3 1 × IVec S_ 1 :=
  let main_cst_4 : FVec F S_ .f32 := constant S_ .f32 0x7F800000#32
  let main_v66 : FVec F S6 .f32 := broadcastInDim S6 ![] bcast_S_S6 main_cst_4
  let main_v67 : IVec S6 1 := cmpf .olt main_v65 main_v66
  let main_v68 : FVec F S6x32 .f32 := Host.absf main_arg5
  let main_cst_5 : FVec F S_ .f32 := constant S_ .f32 0x7F800000#32
  let main_v69 : FVec F S6x32 .f32 := broadcastInDim S6x32 ![] bcast_S_S6x32 main_cst_5
  let main_v70 : IVec S6x32 1 := cmpf .olt main_v68 main_v69
  let main_v71 : FVec F S32 .f32 := Host.absf main_arg6
  let main_cst_6 : FVec F S_ .f32 := constant S_ .f32 0x7F800000#32
  let main_v72 : FVec F S32 .f32 := broadcastInDim S32 ![] bcast_S_S32 main_cst_6
  let main_v73 : IVec S32 1 := cmpf .olt main_v71 main_v72
  let main_v74 : FVec F S32x6 .f32 := Host.absf main_arg7
  let main_cst_7 : FVec F S_ .f32 := constant S_ .f32 0x7F800000#32
  let main_v75 : FVec F S32x6 .f32 := broadcastInDim S32x6 ![] bcast_S_S32x6 main_cst_7
  let main_v76 : IVec S32x6 1 := cmpf .olt main_v74 main_v75
  let main_v77 : FVec F S6 .f32 := Host.absf main_arg8
  let main_cst_8 : FVec F S_ .f32 := constant S_ .f32 0x7F800000#32
  let main_v78 : FVec F S6 .f32 := broadcastInDim S6 ![] bcast_S_S6 main_cst_8
  let main_v79 : IVec S6 1 := cmpf .olt main_v77 main_v78
  let main_v80 : FVec F S6x32 .f32 := Host.absf main_arg9
  let main_cst_9 : FVec F S_ .f32 := constant S_ .f32 0x7F800000#32
  let main_v81 : FVec F S6x32 .f32 := broadcastInDim S6x32 ![] bcast_S_S6x32 main_cst_9
  let main_v82 : IVec S6x32 1 := cmpf .olt main_v80 main_v81
  let main_v83 : FVec F S32 .f32 := Host.absf main_arg10
  fn_part4 (F := F) main_arg11 main_arg12 main_arg14 main_v52 main_v55 main_v58 main_v61 main_v64 main_v67 main_v70 main_v73 main_v76 main_v79 main_v82 main_v83

def fn_part2 {F : FTy → Type} [FloatOps F] (main_arg0 : FVec F S524288x3 .f32) (main_arg1 : FVec F S3x32 .f32) (main_arg2 : FVec F S32 .f32) (main_arg3 : FVec F S32x6 .f32) (main_arg4 : FVec F S6 .f32) (main_arg5 : FVec F S6x32 .f32) (main_arg6 : FVec F S32 .f32) (main_arg7 : FVec F S32x6 .f32) (main_arg8 : FVec F S6 .f32) (main_arg9 : FVec F S6x32 .f32) (main_arg10 : FVec F S32 .f32) (main_arg11 : FVec F S32x3 .f32) (main_arg12 : FVec F S3 .f32) (main_arg14 : FVec F S3x3 .f32) (main_v8 : FVec F S3x3 .f32) (main_v37 : FVec F S_ .f32) (main_v39 : FVec F S_ .f32) (main_v44 : FVec F S_ .f32) (main_v45 : FVec F S1x1 .f32) : IVec S524288x3 1 × IVec S3x32 1 × IVec S32 1 × IVec S32x6 1 × IVec S6 1 × IVec S6x32 1 × IVec S32 1 × IVec S32x6 1 × IVec S6 1 × IVec S6x32 1 × IVec S32 1 × IVec S32x3 1 × IVec S3 1 × IVec S3x3 1 × IVec S_ 1 :=
  let main_v46 : FVec F S_ .f32 := shapeCast S_ main_v45 shapeCasts_S1x1_S_
  let main_v47 : FVec F S1x1 .f32 := (extractStridedSlice S1x1 ![2, 0] · slices_S3x3_S1x1_2_0) main_v8
  let main_v48 : FVec F S_ .f32 := shapeCast S_ main_v47 shapeCasts_S1x1_S_
  let main_v49 : FVec F S_ .f32 := mulf main_v46 main_v48
  let main_v50 : FVec F S_ .f32 := subf main_v44 main_v49
  let main_v51 : FVec F S_ .f32 := mulf main_v39 main_v50
  let main_v52 : FVec F S_ .f32 := addf main_v37 main_v51
  let main_v53 : FVec F S524288x3 .f32 := Host.absf main_arg0
  let main_cst_0 : FVec F S_ .f32 := constant S_ .f32 0x7F800000#32
  let main_v54 : FVec F S524288x3 .f32 := broadcastInDim S524288x3 ![] bcast_S_S524288x3 main_cst_0
  let main_v55 : IVec S524288x3 1 := cmpf .olt main_v53 main_v54
  let main_v56 : FVec F S3x32 .f32 := Host.absf main_arg1
  let main_cst_1 : FVec F S_ .f32 := constant S_ .f32 0x7F800000#32
  let main_v57 : FVec F S3x32 .f32 := broadcastInDim S3x32 ![] bcast_S_S3x32 main_cst_1
  let main_v58 : IVec S3x32 1 := cmpf .olt main_v56 main_v57
  let main_v59 : FVec F S32 .f32 := Host.absf main_arg2
  let main_cst_2 : FVec F S_ .f32 := constant S_ .f32 0x7F800000#32
  let main_v60 : FVec F S32 .f32 := broadcastInDim S32 ![] bcast_S_S32 main_cst_2
  let main_v61 : IVec S32 1 := cmpf .olt main_v59 main_v60
  let main_v62 : FVec F S32x6 .f32 := Host.absf main_arg3
  let main_cst_3 : FVec F S_ .f32 := constant S_ .f32 0x7F800000#32
  let main_v63 : FVec F S32x6 .f32 := broadcastInDim S32x6 ![] bcast_S_S32x6 main_cst_3
  let main_v64 : IVec S32x6 1 := cmpf .olt main_v62 main_v63
  let main_v65 : FVec F S6 .f32 := Host.absf main_arg4
  fn_part3 (F := F) main_arg5 main_arg6 main_arg7 main_arg8 main_arg9 main_arg10 main_arg11 main_arg12 main_arg14 main_v52 main_v55 main_v58 main_v61 main_v64 main_v65

def fn_part1 {F : FTy → Type} [FloatOps F] (main_arg0 : FVec F S524288x3 .f32) (main_arg1 : FVec F S3x32 .f32) (main_arg2 : FVec F S32 .f32) (main_arg3 : FVec F S32x6 .f32) (main_arg4 : FVec F S6 .f32) (main_arg5 : FVec F S6x32 .f32) (main_arg6 : FVec F S32 .f32) (main_arg7 : FVec F S32x6 .f32) (main_arg8 : FVec F S6 .f32) (main_arg9 : FVec F S6x32 .f32) (main_arg10 : FVec F S32 .f32) (main_arg11 : FVec F S32x3 .f32) (main_arg12 : FVec F S3 .f32) (main_arg14 : FVec F S3x3 .f32) (main_v8 : FVec F S3x3 .f32) (main_v10 : FVec F S_ .f32) (main_v21 : FVec F S_ .f32) : IVec S524288x3 1 × IVec S3x32 1 × IVec S32 1 × IVec S32x6 1 × IVec S6 1 × IVec S6x32 1 × IVec S32 1 × IVec S32x6 1 × IVec S6 1 × IVec S6x32 1 × IVec S32 1 × IVec S32x3 1 × IVec S3 1 × IVec S3x3 1 × IVec S_ 1 :=
  let main_v22 : FVec F S_ .f32 := mulf main_v10 main_v21
  let main_v23 : FVec F S1x1 .f32 := (extractStridedSlice S1x1 ![0, 1] · slices_S3x3_S1x1_0_1) main_v8
  let main_v24 : FVec F S_ .f32 := shapeCast S_ main_v23 shapeCasts_S1x1_S_
  let main_v25 : FVec F S1x1 .f32 := (extractStridedSlice S1x1 ![1, 0] · slices_S3x3_S1x1_1_0) main_v8
  let main_v26 : FVec F S_ .f32 := shapeCast S_ main_v25 shapeCasts_S1x1_S_
  let main_v27 : FVec F S1x1 .f32 := (extractStridedSlice S1x1 ![2, 2] · slices_S3x3_S1x1_2_2) main_v8
  let main_v28 : FVec F S_ .f32 := shapeCast S_ main_v27 shapeCasts_S1x1_S_
  let main_v29 : FVec F S_ .f32 := mulf main_v26 main_v28
  let main_v30 : FVec F S1x1 .f32 := (extractStridedSlice S1x1 ![1, 2] · slices_S3x3_S1x1_1_2) main_v8
  let main_v31 : FVec F S_ .f32 := shapeCast S_ main_v30 shapeCasts_S1x1_S_
  let main_v32 : FVec F S1x1 .f32 := (extractStridedSlice S1x1 ![2, 0] · slices_S3x3_S1x1_2_0) main_v8
  let main_v33 : FVec F S_ .f32 := shapeCast S_ main_v32 shapeCasts_S1x1_S_
  let main_v34 : FVec F S_ .f32 := mulf main_v31 main_v33
  let main_v35 : FVec F S_ .f32 := subf main_v29 main_v34
  let main_v36 : FVec F S_ .f32 := mulf main_v24 main_v35
  let main_v37 : FVec F S_ .f32 := subf main_v22 main_v36
  let main_v38 : FVec F S1x1 .f32 := (extractStridedSlice S1x1 ![0, 2] · slices_S3x3_S1x1_0_2) main_v8
  let main_v39 : FVec F S_ .f32 := shapeCast S_ main_v38 shapeCasts_S1x1_S_
  let main_v40 : FVec F S1x1 .f32 := (extractStridedSlice S1x1 ![1, 0] · slices_S3x3_S1x1_1_0) main_v8
  let main_v41 : FVec F S_ .f32 := shapeCast S_ main_v40 shapeCasts_S1x1_S_
  let main_v42 : FVec F S1x1 .f32 := (extractStridedSlice S1x1 ![2, 1] · slices_S3x3_S1x1_2_1) main_v8
  let main_v43 : FVec F S_ .f32 := shapeCast S_ main_v42 shapeCasts_S1x1_S_
  let main_v44 : FVec F S_ .f32 := mulf main_v41 main_v43
  let main_v45 : FVec F S1x1 .f32 := (extractStridedSlice S1x1 ![1, 1] · slices_S3x3_S1x1_1_1) main_v8
  fn_part2 (F := F) main_arg0 main_arg1 main_arg2 main_arg3 main_arg4 main_arg5 main_arg6 main_arg7 main_arg8 main_arg9 main_arg10 main_arg11 main_arg12 main_arg14 main_v8 main_v37 main_v39 main_v44 main_v45

def fn {F : FTy → Type} [FloatOps F] (main_arg0 : FVec F S524288x3 .f32) (main_arg1 : FVec F S3x32 .f32) (main_arg2 : FVec F S32 .f32) (main_arg3 : FVec F S32x6 .f32) (main_arg4 : FVec F S6 .f32) (main_arg5 : FVec F S6x32 .f32) (main_arg6 : FVec F S32 .f32) (main_arg7 : FVec F S32x6 .f32) (main_arg8 : FVec F S6 .f32) (main_arg9 : FVec F S6x32 .f32) (main_arg10 : FVec F S32 .f32) (main_arg11 : FVec F S32x3 .f32) (main_arg12 : FVec F S3 .f32) (main_arg13 : FVec F S6x6 .f32) (main_arg14 : FVec F S3x3 .f32) : IVec S524288x3 1 × IVec S3x32 1 × IVec S32 1 × IVec S32x6 1 × IVec S6 1 × IVec S6x32 1 × IVec S32 1 × IVec S32x6 1 × IVec S6 1 × IVec S6x32 1 × IVec S32 1 × IVec S32x3 1 × IVec S3 1 × IVec S3x3 1 × IVec S_ 1 :=
  let main_v0 : IVec S3x3 32 := iotaInDim S3x3 32 0
  let main_v1 : IVec S3x3 32 := iotaInDim S3x3 32 1
  let main_c : IVec S_ 32 := constantI S_ 32 0#32
  let main_v2 : IVec S3x3 32 := broadcastInDim S3x3 ![] bcast_S_S3x3 main_c
  let main_v3 : IVec S3x3 32 := addi main_v0 main_v2
  let main_v4 : IVec S3x3 1 := cmpi .eq main_v3 main_v1
  let main_v5 : FVec F S3x3 .f32 := uitofp .f32 main_v4
  let main_cst : FVec F S_ .f32 := constant S_ .f32 0x3727C5AC#32
  let main_v6 : FVec F S3x3 .f32 := broadcastInDim S3x3 ![] bcast_S_S3x3 main_cst
  let main_v7 : FVec F S3x3 .f32 := mulf main_v6 main_v5
  let main_v8 : FVec F S3x3 .f32 := addf main_arg14 main_v7
  let main_v9 : FVec F S1x1 .f32 := (extractStridedSlice S1x1 ![0, 0] · slices_S3x3_S1x1_0_0) main_v8
  let main_v10 : FVec F S_ .f32 := shapeCast S_ main_v9 shapeCasts_S1x1_S_
  let main_v11 : FVec F S1x1 .f32 := (extractStridedSlice S1x1 ![1, 1] · slices_S3x3_S1x1_1_1) main_v8
  let main_v12 : FVec F S_ .f32 := shapeCast S_ main_v11 shapeCasts_S1x1_S_
  let main_v13 : FVec F S1x1 .f32 := (extractStridedSlice S1x1 ![2, 2] · slices_S3x3_S1x1_2_2) main_v8
  let main_v14 : FVec F S_ .f32 := shapeCast S_ main_v13 shapeCasts_S1x1_S_
  let main_v15 : FVec F S_ .f32 := mulf main_v12 main_v14
  let main_v16 : FVec F S1x1 .f32 := (extractStridedSlice S1x1 ![1, 2] · slices_S3x3_S1x1_1_2) main_v8
  let main_v17 : FVec F S_ .f32 := shapeCast S_ main_v16 shapeCasts_S1x1_S_
  let main_v18 : FVec F S1x1 .f32 := (extractStridedSlice S1x1 ![2, 1] · slices_S3x3_S1x1_2_1) main_v8
  let main_v19 : FVec F S_ .f32 := shapeCast S_ main_v18 shapeCasts_S1x1_S_
  let main_v20 : FVec F S_ .f32 := mulf main_v17 main_v19
  let main_v21 : FVec F S_ .f32 := subf main_v15 main_v20
  fn_part1 (F := F) main_arg0 main_arg1 main_arg2 main_arg3 main_arg4 main_arg5 main_arg6 main_arg7 main_arg8 main_arg9 main_arg10 main_arg11 main_arg12 main_arg14 main_v8 main_v10 main_v21
-- ==== Kernel.lean ====
abbrev S524288x3 : Shape := ⟨2, ![524288, 3]⟩
abbrev S3x32 : Shape := ⟨2, ![3, 32]⟩
abbrev S32 : Shape := ⟨1, ![32]⟩
abbrev S32x6 : Shape := ⟨2, ![32, 6]⟩
abbrev S6 : Shape := ⟨1, ![6]⟩
abbrev S6x32 : Shape := ⟨2, ![6, 32]⟩
abbrev S32x3 : Shape := ⟨2, ![32, 3]⟩
abbrev S3 : Shape := ⟨1, ![3]⟩
abbrev S6x6 : Shape := ⟨2, ![6, 6]⟩
abbrev S3x3 : Shape := ⟨2, ![3, 3]⟩
abbrev S1x32 : Shape := ⟨2, ![1, 32]⟩
abbrev S1x6 : Shape := ⟨2, ![1, 6]⟩
abbrev S1x3 : Shape := ⟨2, ![1, 3]⟩
abbrev S1x1 : Shape := ⟨2, ![1, 1]⟩
abbrev S524288x6 : Shape := ⟨2, ![524288, 6]⟩
abbrev S2048x3 : Shape := ⟨2, ![2048, 3]⟩
abbrev S2048x6 : Shape := ⟨2, ![2048, 6]⟩
abbrev S2048x32 : Shape := ⟨2, ![2048, 32]⟩
abbrev S32x32 : Shape := ⟨2, ![32, 32]⟩
abbrev S8x32 : Shape := ⟨2, ![8, 32]⟩
abbrev S1x2048x3 : Shape := ⟨3, ![1, 2048, 3]⟩
abbrev S1 : Shape := ⟨1, ![1]⟩
abbrev S1x1x1 : Shape := ⟨3, ![1, 1, 1]⟩

abbrev nBuf : Space → Nat
  | .hbm => 23
  | .vmem => 23
  | .smem => 1
  | _ => 0

abbrev bufTy : (tb : Table) → Fin (tcTables nBuf tb) → BufTy
  | .hbm, ⟨0, _⟩ => ⟨S524288x3, .f32⟩
  | .hbm, ⟨1, _⟩ => ⟨S3x32, .f32⟩
  | .hbm, ⟨2, _⟩ => ⟨S32, .f32⟩
  | .hbm, ⟨3, _⟩ => ⟨S32x6, .f32⟩
  | .hbm, ⟨4, _⟩ => ⟨S6, .f32⟩
  | .hbm, ⟨5, _⟩ => ⟨S6x32, .f32⟩
  | .hbm, ⟨6, _⟩ => ⟨S32, .f32⟩
  | .hbm, ⟨7, _⟩ => ⟨S32x6, .f32⟩
  | .hbm, ⟨8, _⟩ => ⟨S6, .f32⟩
  | .hbm, ⟨9, _⟩ => ⟨S6x32, .f32⟩
  | .hbm, ⟨10, _⟩ => ⟨S32, .f32⟩
  | .hbm, ⟨11, _⟩ => ⟨S32x3, .f32⟩
  | .hbm, ⟨12, _⟩ => ⟨S3, .f32⟩
  | .hbm, ⟨13, _⟩ => ⟨S6x6, .f32⟩
  | .hbm, ⟨14, _⟩ => ⟨S3x3, .f32⟩
  | .hbm, ⟨15, _⟩ => ⟨S1x32, .f32⟩
  | .hbm, ⟨16, _⟩ => ⟨S1x6, .f32⟩
  | .hbm, ⟨17, _⟩ => ⟨S1x32, .f32⟩
  | .hbm, ⟨18, _⟩ => ⟨S1x6, .f32⟩
  | .hbm, ⟨19, _⟩ => ⟨S1x32, .f32⟩
  | .hbm, ⟨20, _⟩ => ⟨S1x3, .f32⟩
  | .hbm, ⟨21, _⟩ => ⟨S1x1, .f32⟩
  | .hbm, ⟨22, _⟩ => ⟨S524288x6, .f32⟩
  | .local _ .vmem, ⟨0, _⟩ => ⟨S2048x3, .f32⟩
  | .local _ .vmem, ⟨1, _⟩ => ⟨S2048x3, .f32⟩
  | .local _ .vmem, ⟨2, _⟩ => ⟨S3x32, .f32⟩
  | .local _ .vmem, ⟨3, _⟩ => ⟨S1x32, .f32⟩
  | .local _ .vmem, ⟨4, _⟩ => ⟨S32x6, .f32⟩
  | .local _ .vmem, ⟨5, _⟩ => ⟨S1x6, .f32⟩
  | .local _ .vmem, ⟨6, _⟩ => ⟨S6x32, .f32⟩
  | .local _ .vmem, ⟨7, _⟩ => ⟨S1x32, .f32⟩
  | .local _ .vmem, ⟨8, _⟩ => ⟨S32x6, .f32⟩
  | .local _ .vmem, ⟨9, _⟩ => ⟨S1x6, .f32⟩
  | .local _ .vmem, ⟨10, _⟩ => ⟨S6x32, .f32⟩
  | .local _ .vmem, ⟨11, _⟩ => ⟨S1x32, .f32⟩
  | .local _ .vmem, ⟨12, _⟩ => ⟨S32x3, .f32⟩
  | .local _ .vmem, ⟨13, _⟩ => ⟨S1x3, .f32⟩
  | .local _ .vmem, ⟨14, _⟩ => ⟨S1x1, .f32⟩
  | .local _ .vmem, ⟨15, _⟩ => ⟨S2048x6, .f32⟩
  | .local _ .vmem, ⟨16, _⟩ => ⟨S2048x6, .f32⟩
  | .local _ .vmem, ⟨17, _⟩ => ⟨S1x32, .f32⟩
  | .local _ .vmem, ⟨18, _⟩ => ⟨S1x1, .f32⟩
  | .local _ .vmem, ⟨19, _⟩ => ⟨S2048x32, .f32⟩
  | .local _ .vmem, ⟨20, _⟩ => ⟨S2048x32, .f32⟩
  | .local _ .vmem, ⟨21, _⟩ => ⟨S2048x32, .f32⟩
  | .local _ .vmem, ⟨22, _⟩ => ⟨S2048x32, .f32⟩
  | .local _ .smem, ⟨0, _⟩ => ⟨S3x3, .f32⟩
  | _, _ => ⟨S524288x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg15_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_stg13_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![256], ![false]⟩

@[reducible] def k0_t1_loop : Scf.Loop 32 :=
  let c0_i32_37 : BitVec 32 := 0#32
  let c256_i32 : BitVec 32 := 256#32
  let v40 : BitVec 32 := Scalar.addi c0_i32_37 c256_i32
  let c1_i32 : BitVec 32 := 1#32
  ⟨c0_i32_37, v40, c1_i32⟩
def k0_off1 (k0_t1 : Fin k0_t1_loop.trips) : Fin 2 → Nat :=
  let c0_i32_37 : BitVec 32 := 0#32
  let c1_i32 : BitVec 32 := 1#32
  let arg23 : BitVec 32 := Scf.iv c0_i32_37 c1_i32 k0_t1
  let c8_i32 : BitVec 32 := 8#32
  let v162 : BitVec 32 := Scalar.muli arg23 c8_i32
  let v163 : Index := Scalar.indexCast v162
  let c0_86 : Index := 0#32
  ![v163.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x6 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .smem S3x3 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2048x6 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S524288x3 : Shape := ⟨2, ![524288, 3]⟩
abbrev S3x32 : Shape := ⟨2, ![3, 32]⟩
abbrev S32 : Shape := ⟨1, ![32]⟩
abbrev S32x6 : Shape := ⟨2, ![32, 6]⟩
abbrev S6 : Shape := ⟨1, ![6]⟩
abbrev S6x32 : Shape := ⟨2, ![6, 32]⟩
abbrev S32x3 : Shape := ⟨2, ![32, 3]⟩
abbrev S3 : Shape := ⟨1, ![3]⟩
abbrev S6x6 : Shape := ⟨2, ![6, 6]⟩
abbrev S3x3 : Shape := ⟨2, ![3, 3]⟩
abbrev S_ : Shape := ⟨0, ![]⟩
abbrev S1x3 : Shape := ⟨2, ![1, 3]⟩
abbrev S1 : Shape := ⟨1, ![1]⟩
abbrev S524288x6 : Shape := ⟨2, ![524288, 6]⟩
abbrev S1x6 : Shape := ⟨2, ![1, 6]⟩
abbrev S1x1 : Shape := ⟨2, ![1, 1]⟩

abbrev nBuf : Space → Nat
  | .hbm => 189
  | .vmem => 0
  | .smem => 0
  | _ => 0

abbrev hbmTy0_0 (i : Nat) : BufTy := match i % 128 with
  | 0 => ⟨S524288x3, .f32⟩
  | 1 => ⟨S3x32, .f32⟩
  | 2 => ⟨S32, .f32⟩
  | 3 => ⟨S32x6, .f32⟩
  | 4 => ⟨S6, .f32⟩
  | 5 => ⟨S6x32, .f32⟩
  | 6 => ⟨S32, .f32⟩
  | 7 => ⟨S32x6, .f32⟩
  | 8 => ⟨S6, .f32⟩
  | 9 => ⟨S6x32, .f32⟩
  | 10 => ⟨S32, .f32⟩
  | 11 => ⟨S32x3, .f32⟩
  | 12 => ⟨S3, .f32⟩
  | 13 => ⟨S6x6, .f32⟩
  | 14 => ⟨S3x3, .f32⟩
  | 15 => ⟨S3x3, .i32⟩
  | 16 => ⟨S3x3, .i32⟩
  | 17 => ⟨S_, .i32⟩
  | 18 => ⟨S3x3, .i32⟩
  | 19 => ⟨S3x3, .i32⟩
  | 20 => ⟨S3x3, .i1⟩
  | 21 => ⟨S3x3, .f32⟩
  | 22 => ⟨S_, .f32⟩
  | 23 => ⟨S3x3, .f32⟩
  | 24 => ⟨S3x3, .f32⟩
  | 25 => ⟨S3x3, .f32⟩
  | 26 => ⟨S3x3, .i32⟩
  | 27 => ⟨S3x3, .i32⟩
  | 28 => ⟨S_, .i32⟩
  | 29 => ⟨S3x3, .i32⟩
  | 30 => ⟨S3x3, .i32⟩
  | 31 => ⟨S3x3, .i1⟩
  | 32 => ⟨S3x3, .f32⟩
  | 33 => ⟨S1x3, .f32⟩
  | 34 => ⟨S3, .f32⟩
  | 35 => ⟨S1x3, .f32⟩
  | 36 => ⟨S3, .f32⟩
  | 37 => ⟨S6, .f32⟩
  | 38 => ⟨S1x3, .f32⟩
  | 39 => ⟨S3, .f32⟩
  | 40 => ⟨S1x3, .f32⟩
  | 41 => ⟨S3, .f32⟩
  | 42 => ⟨S6, .f32⟩
  | 43 => ⟨S1x3, .f32⟩
  | 44 => ⟨S3, .f32⟩
  | 45 => ⟨S1x3, .f32⟩
  | 46 => ⟨S3, .f32⟩
  | 47 => ⟨S6, .f32⟩
  | 48 => ⟨S1, .f32⟩
  | 49 => ⟨S_, .f32⟩
  | 50 => ⟨S_, .f32⟩
  | 51 => ⟨S1, .f32⟩
  | 52 => ⟨S_, .f32⟩
  | 53 => ⟨S_, .f32⟩
  | 54 => ⟨S_, .i1⟩
  | 55 => ⟨S6, .f32⟩
  | 56 => ⟨S6, .f32⟩
  | 57 => ⟨S1, .f32⟩
  | 58 => ⟨S_, .f32⟩
  | 59 => ⟨S_, .f32⟩
  | 60 => ⟨S1, .f32⟩
  | 61 => ⟨S_, .f32⟩
  | 62 => ⟨S_, .f32⟩
  | 63 => ⟨S_, .i1⟩
  | 64 => ⟨S6, .f32⟩
  | 65 => ⟨S6, .f32⟩
  | 66 => ⟨S1, .f32⟩
  | 67 => ⟨S_, .f32⟩
  | 68 => ⟨S6, .f32⟩
  | 69 => ⟨S6, .f32⟩
  | 70 => ⟨S1, .f32⟩
  | 71 => ⟨S_, .f32⟩
  | 72 => ⟨S6, .f32⟩
  | 73 => ⟨S6, .f32⟩
  | 74 => ⟨S6, .f32⟩
  | 75 => ⟨S1, .f32⟩
  | 76 => ⟨S_, .f32⟩
  | 77 => ⟨S6, .f32⟩
  | 78 => ⟨S6, .f32⟩
  | 79 => ⟨S6, .f32⟩
  | 80 => ⟨S1, .f32⟩
  | 81 => ⟨S_, .f32⟩
  | 82 => ⟨S_, .f32⟩
  | 83 => ⟨S1, .f32⟩
  | 84 => ⟨S_, .f32⟩
  | 85 => ⟨S_, .f32⟩
  | 86 => ⟨S_, .i1⟩
  | 87 => ⟨S6, .f32⟩
  | 88 => ⟨S6, .f32⟩
  | 89 => ⟨S1, .f32⟩
  | 90 => ⟨S_, .f32⟩
  | 91 => ⟨S6, .f32⟩
  | 92 => ⟨S6, .f32⟩
  | 93 => ⟨S1, .f32⟩
  | 94 => ⟨S_, .f32⟩
  | 95 => ⟨S6, .f32⟩
  | 96 => ⟨S6, .f32⟩
  | 97 => ⟨S6, .f32⟩
  | 98 => ⟨S1, .f32⟩
  | 99 => ⟨S_, .f32⟩
  | 100 => ⟨S6, .f32⟩
  | 101 => ⟨S6, .f32⟩
  | 102 => ⟨S6, .f32⟩
  | 103 => ⟨S1, .f32⟩
  | 104 => ⟨S_, .f32⟩
  | 105 => ⟨S6, .f32⟩
  | 106 => ⟨S6, .f32⟩
  | 107 => ⟨S1, .f32⟩
  | 108 => ⟨S_, .f32⟩
  | 109 => ⟨S6, .f32⟩
  | 110 => ⟨S6, .f32⟩
  | 111 => ⟨S6, .f32⟩
  | 112 => ⟨S1, .f32⟩
  | 113 => ⟨S_, .f32⟩
  | 114 => ⟨S6, .f32⟩
  | 115 => ⟨S6, .f32⟩
  | 116 => ⟨S6, .f32⟩
  | 117 => ⟨S3, .f32⟩
  | 118 => ⟨S3, .f32⟩
  | 119 => ⟨S3, .f32⟩
  | 120 => ⟨S1x3, .f32⟩
  | 121 => ⟨S1x3, .f32⟩
  | 122 => ⟨S1x3, .f32⟩
  | 123 => ⟨S3x3, .f32⟩
  | 124 => ⟨S_, .f32⟩
  | 125 => ⟨S6, .f32⟩
  | 126 => ⟨S_, .f32⟩
  | 127 => ⟨S_, .f32⟩
  | _ => ⟨S524288x3, .f32⟩

abbrev hbmTy0_1 (i : Nat) : BufTy := match i % 128 with
  | 0 => ⟨S524288x6, .f32⟩
  | 1 => ⟨S_, .i32⟩
  | 2 => ⟨S524288x3, .f32⟩
  | 3 => ⟨S6x32, .f32⟩
  | 4 => ⟨S32, .f32⟩
  | 5 => ⟨S32x6, .f32⟩
  | 6 => ⟨S6, .f32⟩
  | 7 => ⟨S6x32, .f32⟩
  | 8 => ⟨S32, .f32⟩
  | 9 => ⟨S32x3, .f32⟩
  | 10 => ⟨S3, .f32⟩
  | 11 => ⟨S3x3, .f32⟩
  | 12 => ⟨S3x32, .f32⟩
  | 13 => ⟨S32, .f32⟩
  | 14 => ⟨S32x6, .f32⟩
  | 15 => ⟨S6, .f32⟩
  | 16 => ⟨S_, .i32⟩
  | 17 => ⟨S6, .f32⟩
  | 18 => ⟨S_, .f32⟩
  | 19 => ⟨S524288x6, .f32⟩
  | 20 => ⟨S_, .i32⟩
  | 21 => ⟨S_, .i1⟩
  | 22 => ⟨S_, .i32⟩
  | 23 => ⟨S1x3, .f32⟩
  | 24 => ⟨S3, .f32⟩
  | 25 => ⟨S32, .f32⟩
  | 26 => ⟨S32, .f32⟩
  | 27 => ⟨S_, .f32⟩
  | 28 => ⟨S32, .f32⟩
  | 29 => ⟨S32, .f32⟩
  | 30 => ⟨S6, .f32⟩
  | 31 => ⟨S6, .f32⟩
  | 32 => ⟨S32, .f32⟩
  | 33 => ⟨S32, .f32⟩
  | 34 => ⟨S_, .f32⟩
  | 35 => ⟨S32, .f32⟩
  | 36 => ⟨S32, .f32⟩
  | 37 => ⟨S3, .f32⟩
  | 38 => ⟨S3, .f32⟩
  | 39 => ⟨S3, .f32⟩
  | 40 => ⟨S3, .f32⟩
  | 41 => ⟨S3, .f32⟩
  | 42 => ⟨S_, .f32⟩
  | 43 => ⟨S_, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S6, .f32⟩
  | 51 => ⟨S6, .f32⟩
  | 52 => ⟨S6, .f32⟩
  | 53 => ⟨S1x6, .f32⟩
  | 54 => ⟨S_, .i32⟩
  | 55 => ⟨S524288x6, .f32⟩
  | 56 => ⟨S_, .i32⟩
  | 57 => ⟨S_, .i32⟩
  | 58 => ⟨S_, .f32⟩
  | 59 => ⟨S_, .f32⟩
  | 60 => ⟨S1x1, .f32⟩
  | _ => ⟨S524288x3, .f32⟩

abbrev hbmTy (i : Nat) : BufTy := match i / 128 with
  | 0 => hbmTy0_0 i
  | 1 => hbmTy0_1 i
  | _ => ⟨S524288x3, .f32⟩

abbrev bufTy : (tb : Table) → Fin (tcTables nBuf tb) → BufTy
  | .hbm, ⟨i, _⟩ => hbmTy i
  | _, _ => ⟨S524288x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_1 : Ref sig .tc := ⟨.hbm, 124, rfl⟩
abbrev main_v106 : Ref sig .tc := ⟨.hbm, 125, rfl⟩
abbrev main_cst_2 : Ref sig .tc := ⟨.hbm, 126, rfl⟩
abbrev main_cst_3 : Ref sig .tc := ⟨.hbm, 127, rfl⟩
abbrev main_v107 : Ref sig .tc := ⟨.hbm, 128, rfl⟩
abbrev main_c_4 : Ref sig .tc := ⟨.hbm, 129, rfl⟩
abbrev main_v108_0 : Ref sig .tc := ⟨.hbm, 130, rfl⟩
abbrev main_v108_1 : Ref sig .tc := ⟨.hbm, 131, rfl⟩
abbrev main_v108_2 : Ref sig .tc := ⟨.hbm, 132, rfl⟩
abbrev main_v108_3 : Ref sig .tc := ⟨.hbm, 133, rfl⟩
abbrev main_v108_4 : Ref sig .tc := ⟨.hbm, 134, rfl⟩
abbrev main_v108_5 : Ref sig .tc := ⟨.hbm, 135, rfl⟩
abbrev main_v108_6 : Ref sig .tc := ⟨.hbm, 136, rfl⟩
abbrev main_v108_7 : Ref sig .tc := ⟨.hbm, 137, rfl⟩
abbrev main_v108_8 : Ref sig .tc := ⟨.hbm, 138, rfl⟩
abbrev main_v108_9 : Ref sig .tc := ⟨.hbm, 139, rfl⟩
abbrev main_v108_10 : Ref sig .tc := ⟨.hbm, 140, rfl⟩
abbrev main_v108_11 : Ref sig .tc := ⟨.hbm, 141, rfl⟩
abbrev main_v108_12 : Ref sig .tc := ⟨.hbm, 142, rfl⟩
abbrev main_v108_13 : Ref sig .tc := ⟨.hbm, 143, rfl⟩
abbrev main_v108_14 : Ref sig .tc := ⟨.hbm, 144, rfl⟩
abbrev main_v108_15 : Ref sig .tc := ⟨.hbm, 145, rfl⟩
abbrev main_v108_16 : Ref sig .tc := ⟨.hbm, 146, rfl⟩
abbrev main_v108_17 : Ref sig .tc := ⟨.hbm, 147, rfl⟩
abbrev main_while0c_c_23 : Ref sig .tc := ⟨.hbm, 148, rfl⟩
abbrev main_while0c_v111 : Ref sig .tc := ⟨.hbm, 149, rfl⟩
abbrev main_while0b_call6_c : Ref sig .tc := ⟨.hbm, 150, rfl⟩
abbrev main_while0b_call6_v0 : Ref sig .tc := ⟨.hbm, 151, rfl⟩
abbrev main_while0b_v111 : Ref sig .tc := ⟨.hbm, 152, rfl⟩
abbrev main_while0b_v112 : Ref sig .tc := ⟨.hbm, 153, rfl⟩
abbrev main_while0b_v113 : Ref sig .tc := ⟨.hbm, 154, rfl⟩
abbrev main_while0b_call7_cst : Ref sig .tc := ⟨.hbm, 155, rfl⟩
abbrev main_while0b_call7_v0 : Ref sig .tc := ⟨.hbm, 156, rfl⟩
abbrev main_while0b_v114 : Ref sig .tc := ⟨.hbm, 157, rfl⟩
abbrev main_while0b_v115 : Ref sig .tc := ⟨.hbm, 158, rfl⟩
abbrev main_while0b_v116 : Ref sig .tc := ⟨.hbm, 159, rfl⟩
abbrev main_while0b_v117 : Ref sig .tc := ⟨.hbm, 160, rfl⟩
abbrev main_while0b_v118 : Ref sig .tc := ⟨.hbm, 161, rfl⟩
abbrev main_while0b_call8_cst : Ref sig .tc := ⟨.hbm, 162, rfl⟩
abbrev main_while0b_call8_v0 : Ref sig .tc := ⟨.hbm, 163, rfl⟩
abbrev main_while0b_v119 : Ref sig .tc := ⟨.hbm, 164, rfl⟩
abbrev main_while0b_v120 : Ref sig .tc := ⟨.hbm, 165, rfl⟩
abbrev main_while0b_v121 : Ref sig .tc := ⟨.hbm, 166, rfl⟩
abbrev main_while0b_v122 : Ref sig .tc := ⟨.hbm, 167, rfl⟩
abbrev main_while0b_v123 : Ref sig .tc := ⟨.hbm, 168, rfl⟩
abbrev main_while0b_v124 : Ref sig .tc := ⟨.hbm, 169, rfl⟩
abbrev main_while0b_cst_23 : Ref sig .tc := ⟨.hbm, 170, rfl⟩
abbrev main_while0b_v125 : Ref sig .tc := ⟨.hbm, 171, rfl⟩
abbrev main_while0b_v126 : Ref sig .tc := ⟨.hbm, 172, rfl⟩
abbrev main_while0b_v127 : Ref sig .tc := ⟨.hbm, 173, rfl⟩
abbrev main_while0b_v128 : Ref sig .tc := ⟨.hbm, 174, rfl⟩
abbrev main_while0b_call9_cst : Ref sig .tc := ⟨.hbm, 175, rfl⟩
abbrev main_while0b_call9_v0 : Ref sig .tc := ⟨.hbm, 176, rfl⟩
abbrev main_while0b_v129 : Ref sig .tc := ⟨.hbm, 177, rfl⟩
abbrev main_while0b_v130 : Ref sig .tc := ⟨.hbm, 178, rfl⟩
abbrev main_while0b_v131 : Ref sig .tc := ⟨.hbm, 179, rfl⟩
abbrev main_while0b_v132 : Ref sig .tc := ⟨.hbm, 180, rfl⟩
abbrev main_while0b_call10_v0 : Ref sig .tc := ⟨.hbm, 181, rfl⟩
abbrev main_while0b_call10_c : Ref sig .tc := ⟨.hbm, 182, rfl⟩
abbrev main_while0b_v133 : Ref sig .tc := ⟨.hbm, 183, rfl⟩
abbrev main_while0b_c_24 : Ref sig .tc := ⟨.hbm, 184, rfl⟩
abbrev main_while0b_v134 : Ref sig .tc := ⟨.hbm, 185, rfl⟩
abbrev main_cst_5 : Ref sig .tc := ⟨.hbm, 186, rfl⟩
abbrev main_v109 : Ref sig .tc := ⟨.hbm, 187, rfl⟩
abbrev main_v110 : Ref sig .tc := ⟨.hbm, 188, rfl⟩

abbrev nD : Nat := 1
abbrev τ : Topo := Topo.v7x

variable {F : FTy → Type} [FloatOps F]

abbrev main_while0_count : Scf.Loop 32 := ⟨0#32, 524288#32, 1#32⟩
-- ==== Proof.IdealRows.lean ====
/-
  The recurrence of one grid point, row by row, and one trip of the loop (eight rows) as that recurrence.
-/
module

public import proofs.«01_k».proof.Proof.Gen.KernelIdeal.Loops
public import proofs.«01_k».proof.Proof.Gen.KernelIdeal.Frame
public import Idealize.ShloMosaic.Lib.Pointwise
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one row of the recurrence multiplies and adds: the four 32×32 products of weights and the two bias rows. -/
structure Wts (F : FTy → Type) where
  A : FVec F S32x32 .f32
  B : FVec F S32x32 .f32
  C : FVec F S32x32 .f32
  D : FVec F S32x32 .f32
  a : FVec F S1x32 .f32
  d : FVec F S1x32 .f32

/-- A row times a 32×32 matrix. -/
def rowDot (h : FVec F S1x32 .f32) (M : FVec F S32x32 .f32) : FVec F S1x32 .f32 :=
  matmul dot_S1x32_S32x32_S1x32_1_0_0_1_n_n none h M (constant S1x32 .f32 0x00000000#32)

/-- The larger of each element and zero. -/
def pos (x : FVec F S1x32 .f32) : FVec F S1x32 .f32 := maximumf x (broadcast S1x32 (Scalar.ofBits .f32 0x00000000#32))

/-- The decoder's hidden row of the state's hidden row `h`. -/
def dec (W : Wts F) (h : FVec F S1x32 .f32) : FVec F S1x32 .f32 := pos (addf (rowDot h W.A) W.a)

/-- The encoder's hidden row, of `h` and of the measurement's row `y`. -/
def enc (W : Wts F) (y h : FVec F S1x32 .f32) : FVec F S1x32 .f32 := pos (subf y (rowDot (dec W h) W.B))

/-- The next hidden row of the state. -/
def nxt (W : Wts F) (y h : FVec F S1x32 .f32) : FVec F S1x32 .f32 :=
  pos (addf (addf (rowDot h W.C) (rowDot (enc W y h) W.D)) W.d)

/-- Row `r` of the measurements' block. -/
def rowAt (cy : Vec F S2048x32 .f32) (r : ℕ) : FVec F S1x32 .f32 :=
  fun y => cy (ix2 ⟨r % 2048, Nat.mod_lt _ (by decide)⟩ (y 1))

/-- The hidden row before row `r` of a block that starts at `h`. -/
def hid (W : Wts F) (cy : Vec F S2048x32 .f32) (h : FVec F S1x32 .f32) : ℕ → FVec F S1x32 .f32
  | 0 => h
  | r + 1 => nxt W (rowAt cy r) (hid W cy h r)

/-- The hidden rows of a block, one under the other. -/
def hidM (W : Wts F) (cy : Vec F S2048x32 .f32) (h : FVec F S1x32 .f32) : Vec F S2048x32 .f32 :=
  fun y => hid W cy h (y 0).val (ix2 0 (y 1))

/-- The decoder's hidden rows of a block. -/
def decM (W : Wts F) (cy : Vec F S2048x32 .f32) (h : FVec F S1x32 .f32) : Vec F S2048x32 .f32 :=
  fun y => dec W (hid W cy h (y 0).val) (ix2 0 (y 1))

/-- The encoder's hidden rows of a block. -/
def encM (W : Wts F) (cy : Vec F S2048x32 .f32) (h : FVec F S1x32 .f32) : Vec F S2048x32 .f32 :=
  fun y => enc W (rowAt cy (y 0).val) (hid W cy h (y 0).val) (ix2 0 (y 1))

/-! ## One trip: eight rows -/

section trip
variable (W : Wts F) (X : Vec F S8x32 .f32) (h : FVec F S1x32 .f32)

/-- Row `j` of the eight rows of a trip, as the trip slices it. -/
def row8 (j : ℕ) (hj : S8x32.Slices ![j, 0] S1x32) : FVec F S1x32 .f32 := extractStridedSlice S1x32 ![j, 0] X hj

abbrev t1 := nxt W (row8 X 0 slices_S8x32_o0_0_S1x32) h
abbrev t2 := nxt W (row8 X 1 slices_S8x32_o1_0_S1x32) (t1 W X h)
abbrev t3 := nxt W (row8 X 2 slices_S8x32_o2_0_S1x32) (t2 W X h)
abbrev t4 := nxt W (row8 X 3 slices_S8x32_o3_0_S1x32) (t3 W X h)
abbrev t5 := nxt W (row8 X 4 slices_S8x32_o4_0_S1x32) (t4 W X h)
abbrev t6 := nxt W (row8 X 5 slices_S8x32_o5_0_S1x32) (t5 W X h)
abbrev t7 := nxt W (row8 X 6 slices_S8x32_o6_0_S1x32) (t6 W X h)
abbrev t8 := nxt W (row8 X 7 slices_S8x32_o7_0_S1x32) (t7 W X h)

/-- The value the trip's first part hands on: the third row's encoder before its maximum. -/
def raw3 : FVec F S1x32 .f32 := subf (row8 X 2 slices_S8x32_o2_0_S1x32) (rowDot (dec W (t2 W X h)) W.B)
/-- The value the trip's second part hands on: the sixth row's decoder before its maximum. -/
def raw6 : FVec F S1x32 .f32 := addf (rowDot (t5 W X h) W.A) W.a

local notation "z0" => (Scalar.ofBits FTy.f32 0x00000000#32 : F FTy.f32)

/-- The values of the loop body, stage by stage and step by step. -/
theorem p3 : k0_pay3 W.A W.a h = dec W h := rfl
theorem p4 : k0_pay4 W.A W.B W.a h X = enc W (row8 X 0 slices_S8x32_o0_0_S1x32) h := rfl
theorem p5 : k0_pay5 W.A W.B W.C W.D W.a W.d h X = t1 W X h := rfl
theorem p6 : k0_pay6 W.A W.B W.C W.D W.a W.d h X = dec W (t1 W X h) := rfl
theorem p7 : k0_pay7 W.A W.B W.C W.D W.a W.d h X = enc W (row8 X 1 slices_S8x32_o1_0_S1x32) (t1 W X h) := rfl
theorem p8 : k0_pay8 W.A W.B W.C W.D W.a W.d h X = t2 W X h := rfl
theorem p9 : k0_pay9 W.A W.B W.C W.D W.a W.d h X = dec W (t2 W X h) := rfl
theorem p10 : k0_pay10 W.A W.B W.C W.D W.a W.d h X = raw3 W X h := rfl
theorem p11 : k0_pay11 (raw3 W X h) = enc W (row8 X 2 slices_S8x32_o2_0_S1x32) (t2 W X h) := rfl
theorem p12 : k0_pay12 W.C W.D W.d (t2 W X h) (raw3 W X h) = t3 W X h := rfl
theorem p13 : k0_pay13 W.A W.C W.D W.a W.d (t2 W X h) (raw3 W X h) = dec W (t3 W X h) := rfl
theorem p14 : k0_pay14 W.A W.B W.C W.D W.a W.d X (t2 W X h) (raw3 W X h) = enc W (row8 X 3 slices_S8x32_o3_0_S1x32) (t3 W X h) := rfl
theorem p15 : k0_pay15 W.A W.B W.C W.D W.a W.d X (t2 W X h) (raw3 W X h) = t4 W X h := rfl
theorem p16 : k0_pay16 W.A W.B W.C W.D W.a W.d X (t2 W X h) (raw3 W X h) = dec W (t4 W X h) := rfl
theorem p17 : k0_pay17 W.A W.B W.C W.D W.a W.d X (t2 W X h) (raw3 W X h) = enc W (row8 X 4 slices_S8x32_o4_0_S1x32) (t4 W X h) := rfl
theorem p18 : k0_pay18 W.A W.B W.C W.D W.a W.d X (t2 W X h) (raw3 W X h) = t5 W X h := rfl
theorem p19 : k0_pay19 W.A W.B W.C W.D W.a W.d X (t2 W X h) (raw3 W X h) = raw6 W X h := rfl
theorem p20 : k0_pay20 (raw6 W X h) z0 = dec W (t5 W X h) := rfl
theorem p21 : k0_pay21 W.B X (raw6 W X h) z0 = enc W (row8 X 5 slices_S8x32_o5_0_S1x32) (t5 W X h) := rfl
theorem p22 : k0_pay22 W.B W.C W.D W.d X (t5 W X h) (raw6 W X h) z0 = t6 W X h := rfl
theorem p23 : k0_pay23 W.A W.B W.C W.D W.a W.d X (t5 W X h) (raw6 W X h) z0 = dec W (t6 W X h) := rfl
theorem p24 : k0_pay24 W.A W.B W.C W.D W.a W.d X (t5 W X h) (raw6 W X h) z0 = enc W (row8 X 6 slices_S8x32_o6_0_S1x32) (t6 W X h) := rfl
theorem p25 : k0_pay25 W.A W.B W.C W.D W.a W.d X (t5 W X h) (raw6 W X h) z0 = t7 W X h := rfl
theorem p26 : k0_pay26 W.A W.B W.C W.D W.a W.d X (t5 W X h) (raw6 W X h) z0 = dec W (t7 W X h) := rfl
theorem p27 : k0_pay27 W.A W.B W.C W.D W.a W.d X (t5 W X h) (raw6 W X h) z0 = enc W (row8 X 7 slices_S8x32_o7_0_S1x32) (t7 W X h) := rfl
/-- The row that the eight steps hand on. -/
theorem p43 : k0_pay43 (k0_pay28 W.A W.B W.C W.D W.a W.d X (t5 W X h) (raw6 W X h) z0) z0 = t8 W X h := rfl

end trip

/-- Eight rows stored one under the other read, at row `j`, the `j`-th of them. -/
theorem stack8 (f : ℕ → FVec F S1x32 .f32) (y : S8x32.Idx) :
    k0_pay45 (f 0) (f 1) (f 2) (f 3) (f 4) (f 5) (f 6) (f 7) y = f (y 0).val (ix2 0 (y 1)) := by
  idx_vars y
  unfold k0_pay45
  pointwise
  fin_vals y0 with hr
  all_goals simp only [hr, Nat.reduceSub, Nat.reduceLT, ↓reduceDIte, ix2_0, ix2_1]
  all_goals rfl

end Cert.KernelIdeal.Hand

end
-- ==== Proof.IdealLoop.lean ====
/-
  The loop of one grid point: after its 256 trips the carried row and the three scratch matrices hold the rows of the recurrence.
-/
module

public import proofs.«01_k».proof.Proof.IdealRows

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S2048x3 .f32) (harg1 : arg1.IsWhole) (arg2 : Memref sig .tc .vmem S3x32 .f32) (harg2 : arg2.IsWhole) (arg3 : Memref sig .tc .vmem S1x32 .f32) (harg3 : arg3.IsWhole) (arg4 : Memref sig .tc .vmem S32x6 .f32) (harg4 : arg4.IsWhole) (arg5 : Memref sig .tc .vmem S1x6 .f32) (harg5 : arg5.IsWhole) (arg6 : Memref sig .tc .vmem S6x32 .f32) (harg6 : arg6.IsWhole) (arg7 : Memref sig .tc .vmem S1x32 .f32) (harg7 : arg7.IsWhole) (arg8 : Memref sig .tc .vmem S32x6 .f32) (harg8 : arg8.IsWhole) (arg9 : Memref sig .tc .vmem S1x6 .f32) (harg9 : arg9.IsWhole) (arg10 : Memref sig .tc .vmem S6x32 .f32) (harg10 : arg10.IsWhole) (arg11 : Memref sig .tc .vmem S1x32 .f32) (harg11 : arg11.IsWhole) (arg12 : Memref sig .tc .vmem S32x3 .f32) (harg12 : arg12.IsWhole) (arg13 : Memref sig .tc .vmem S1x3 .f32) (harg13 : arg13.IsWhole) (arg14 : Memref sig .tc .smem S3x3 .f32) (harg14 : arg14.IsWhole) (arg15 : Memref sig .tc .vmem S1x1 .f32) (harg15 : arg15.IsWhole) (arg16 : Memref sig .tc .vmem S2048x6 .f32) (harg16 : arg16.IsWhole) (arg17 : Memref sig .tc .vmem S1x32 .f32) (harg17 : arg17.IsWhole) (arg18 : Memref sig .tc .vmem S1x1 .f32) (harg18 : arg18.IsWhole) (arg19 : Memref sig .tc .vmem S2048x32 .f32) (harg19 : arg19.IsWhole) (arg20 : Memref sig .tc .vmem S2048x32 .f32) (harg20 : arg20.IsWhole) (arg21 : Memref sig .tc .vmem S2048x32 .f32) (harg21 : arg21.IsWhole) (arg22 : Memref sig .tc .vmem S2048x32 .f32) (harg22 : arg22.IsWhole)
  (v0 : Vec F S3x32 .f32) (v2 : FVec F S1x32 .f32) (v3 : Vec F S32x6 .f32) (v5 : FVec F S1x6 .f32) (v6 : Vec F S6x32 .f32) (v8 : FVec F S1x32 .f32) (v9 : Vec F S32x6 .f32) (v11 : FVec F S1x6 .f32) (v17 : FVec F S1x3 .f32) (v21 : FVec F S32x32 .f32) (v22 : FVec F S32x32 .f32) (v23 : FVec F S32x32 .f32) (v24 : FVec F S32x32 .f32) (v26 : FVec F S1x32 .f32)
  (X19 : BufTy.Contents (Elt F) arg19.view.ty) (cy : Vec F S2048x32 .f32) (h0 : FVec F S1x32 .f32)

/-- Trip `k`'s eight rows of the measurements' block are rows `8 k … 8 k + 7` of it. -/
theorem row8_eq {X19 : BufTy.Contents (Elt F) arg19.view.ty} {cy : Vec F S2048x32 .f32} (hX : arg19.view.read (Elt F) X19 = cy) (k : Fin k0_t1_loop.trips)
    (j : ℕ) (hj8 : j < 8) (hj : S8x32.Slices ![j, 0] S1x32) :
    row8 (arg19.view.readAt (Elt F) (Rect.unit (s := S2048x32) (k0_off1 k) S8x32.size (k0_off1_inb k)).toLoadRect X19) j hj
      = rowAt cy (8 * k.val + j) := by
  have hk : k.val < 256 := Nat.lt_of_lt_of_le k.isLt k0_t1_abs.2.1
  funext y
  have e := View.readAt_unit arg19.view X19 (k0_off1_inb k) (k0_off1_eq k) (by rw [← k0_off1_eq k]; exact k0_off1_inb k)
  unfold row8 rowAt
  rw [e, hX]
  unfold extractStridedSlice
  refine congrArg cy (funext fun a => Fin.ext ?_)
  have hy0 : (y 0).val < 1 := (y 0).isLt
  match a with
  | ⟨0, _⟩ =>
    show 8 * k.val + 1 * (j + (y 0).val) = (8 * k.val + j) % 2048
    rw [Nat.mod_eq_of_lt (by omega)]; omega
  | ⟨1, _⟩ => show 0 + 1 * (0 + (y 1).val) = (y 1).val; omega

/-- The eight hidden rows of trip `k` are the recurrence's. -/
theorem t_eq (W : Wts F) {X : Vec F S8x32 .f32} {h : FVec F S1x32 .f32} {cy : Vec F S2048x32 .f32} {h0 : FVec F S1x32 .f32} {k : ℕ}
    (hX : ∀ (j : ℕ) (_ : j < 8) (hj : S8x32.Slices ![j, 0] S1x32), row8 X j hj = rowAt cy (8 * k + j))
    (hh : h = hid W cy h0 (8 * k)) :
    t1 W X h = hid W cy h0 (8 * k + 1) ∧ t2 W X h = hid W cy h0 (8 * k + 2) ∧ t3 W X h = hid W cy h0 (8 * k + 3)
      ∧ t4 W X h = hid W cy h0 (8 * k + 4) ∧ t5 W X h = hid W cy h0 (8 * k + 5) ∧ t6 W X h = hid W cy h0 (8 * k + 6)
      ∧ t7 W X h = hid W cy h0 (8 * k + 7) ∧ t8 W X h = hid W cy h0 (8 * k + 8) := by
  subst hh
  have e (j : ℕ) (hj8 : j < 8) (hj : S8x32.Slices ![j, 0] S1x32) (u : FVec F S1x32 .f32) (hu : u = hid W cy h0 (8 * k + j)) :
      nxt W (row8 X j hj) u = hid W cy h0 (8 * k + (j + 1)) := by rw [hX j hj8 hj, hu]; rfl
  have e1 := e 0 (by decide) slices_S8x32_o0_0_S1x32 _ rfl
  have e2 := e 1 (by decide) slices_S8x32_o1_0_S1x32 _ e1
  have e3 := e 2 (by decide) slices_S8x32_o2_0_S1x32 _ e2
  have e4 := e 3 (by decide) slices_S8x32_o3_0_S1x32 _ e3
  have e5 := e 4 (by decide) slices_S8x32_o4_0_S1x32 _ e4
  have e6 := e 5 (by decide) slices_S8x32_o5_0_S1x32 _ e5
  have e7 := e 6 (by decide) slices_S8x32_o6_0_S1x32 _ e6
  have e8 := e 7 (by decide) slices_S8x32_o7_0_S1x32 _ e7
  exact ⟨e1, e2, e3, e4, e5, e6, e7, e8⟩

/-- A matrix whose rows below `8 k` are `M`'s, after rows `8 k … 8 k + 7` are stored as `M`'s, has its rows below `8 (k + 1)` as `M`'s. -/
theorem rows_step (v : View sig .tc .vmem S2048x32 .f32) (f : v.ty.Contents (Elt F)) (M : Vec F S2048x32 .f32) (k : Fin k0_t1_loop.trips)
    (L : List (View.Piece (Elt F) S2048x32 .f32)) (w : FVec F S8x32 .f32)
    (hL : ∀ y : S2048x32.Idx, (y 0).val < 8 * k.val → v.read (Elt F) (v.writes (Elt F) f L) y = M y)
    (hw : ∀ (r : Fin 8) (l : Fin 32) (h : 8 * k.val + r.val < 2048), w (ix2 r l) = M (ix2 ⟨8 * k.val + r.val, h⟩ l)) :
    ∀ y : S2048x32.Idx, (y 0).val < 8 * (k.val + 1) →
      v.read (Elt F) (v.writes (Elt F) f (⟨Rect.unit (s := S2048x32) (k0_off1 k) S8x32.size (k0_off1_inb k), w⟩ :: L)) y = M y := by
  intro y hy
  have hy2 : (y 0).val < 2048 := (y 0).isLt
  by_cases h : (y 0).val < 8 * k.val
  · rw [View.read_writes_cons_rows_of_not_mem (W := 8) v f (k0_off1_inb k) w L y (k0_off1_eq k) rfl (Or.inl h)]
    exact hL y h
  · have hr : (y 0).val - 8 * k.val < 8 := by omega
    rw [View.read_writes_cons_rows_of_mem v f (k0_off1_inb k) w L y (ix2 ⟨(y 0).val - 8 * k.val, hr⟩ (y 1)) (k0_off1_eq k)
      (show (y 0).val = 8 * k.val + ((y 0).val - 8 * k.val) by omega) rfl]
    refine (hw ⟨(y 0).val - 8 * k.val, hr⟩ (y 1) (show 8 * k.val + ((y 0).val - 8 * k.val) < 2048 by omega)).trans ?_
    refine congrArg M (funext fun a => Fin.ext ?_)
    match a with
    | ⟨0, _⟩ => show 8 * k.val + ((y 0).val - 8 * k.val) = (y 0).val; omega
    | ⟨1, _⟩ => rfl

/-- What the loop's rows multiply and add, from the values bound before the loop. -/
abbrev wts (v0 : Vec F S3x32 .f32) (v2 : FVec F S1x32 .f32) (v3 : Vec F S32x6 .f32) (v5 : FVec F S1x6 .f32) (v6 : Vec F S6x32 .f32) (v8 : FVec F S1x32 .f32) (v9 : Vec F S32x6 .f32) (v11 : FVec F S1x6 .f32) (v17 : FVec F S1x3 .f32) (v21 : FVec F S32x32 .f32) (v22 : FVec F S32x32 .f32) (v23 : FVec F S32x32 .f32) (v24 : FVec F S32x32 .f32) (v26 : FVec F S1x32 .f32) : Wts F := ⟨v21, v22, v23, v24, v26, k0_pay41 v5 v6 v8 v11⟩

set_option maxHeartbeats 2000000 in
/-- One trip: its result and the three stores, as the recurrence's rows. -/
theorem trip_eq (k : Fin k0_t1_loop.trips) (acc : Vec F S1x32 .f32) :
    tripR_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v2 v3 v5 v6 v8 v9 v11 v17 v21 v22 v23 v24 v26 X19 k acc
        = t8 (wts v0 v2 v3 v5 v6 v8 v9 v11 v17 v21 v22 v23 v24 v26) (arg19.view.readAt (Elt F) (Rect.unit (s := S2048x32) (k0_off1 k) S8x32.size (k0_off1_inb k)).toLoadRect X19) acc
    ∧ ∃ w1 w2 w3 : FVec F S8x32 .f32,
      tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v2 v3 v5 v6 v8 v9 v11 v17 v21 v22 v23 v24 v26 X19 k acc
        = ([⟨Rect.unit (s := S2048x32) (k0_off1 k) S8x32.size (k0_off1_inb k), w1⟩],
           [⟨Rect.unit (s := S2048x32) (k0_off1 k) S8x32.size (k0_off1_inb k), w2⟩],
           [⟨Rect.unit (s := S2048x32) (k0_off1 k) S8x32.size (k0_off1_inb k), w3⟩])
      ∧ ∀ (hX : arg19.view.read (Elt F) X19 = cy) (hacc : acc = hid (wts v0 v2 v3 v5 v6 v8 v9 v11 v17 v21 v22 v23 v24 v26) cy h0 (8 * k.val)) (r : Fin 8) (l : Fin 32),
          w1 (ix2 r l) = hid (wts v0 v2 v3 v5 v6 v8 v9 v11 v17 v21 v22 v23 v24 v26) cy h0 (8 * k.val + r.val) (ix2 0 l)
          ∧ w2 (ix2 r l) = dec (wts v0 v2 v3 v5 v6 v8 v9 v11 v17 v21 v22 v23 v24 v26) (hid (wts v0 v2 v3 v5 v6 v8 v9 v11 v17 v21 v22 v23 v24 v26) cy h0 (8 * k.val + r.val)) (ix2 0 l)
          ∧ w3 (ix2 r l) = enc (wts v0 v2 v3 v5 v6 v8 v9 v11 v17 v21 v22 v23 v24 v26) (rowAt cy (8 * k.val + r.val)) (hid (wts v0 v2 v3 v5 v6 v8 v9 v11 v17 v21 v22 v23 v24 v26) cy h0 (8 * k.val + r.val)) (ix2 0 l) := by
  set W := wts v0 v2 v3 v5 v6 v8 v9 v11 v17 v21 v22 v23 v24 v26 with hW
  set X := arg19.view.readAt (Elt F) (Rect.unit (s := S2048x32) (k0_off1 k) S8x32.size (k0_off1_inb k)).toLoadRect X19 with hXdef
  have hl : tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v2 v3 v5 v6 v8 v9 v11 v17 v21 v22 v23 v24 v26 X19 k acc
        = ([⟨Rect.unit (s := S2048x32) (k0_off1 k) S8x32.size (k0_off1_inb k), k0_pay45 acc (t1 W X acc) (t2 W X acc) (t3 W X acc) (t4 W X acc) (t5 W X acc) (t6 W X acc) (t7 W X acc)⟩],
           [⟨Rect.unit (s := S2048x32) (k0_off1 k) S8x32.size (k0_off1_inb k), k0_pay45 (dec W acc) (dec W (t1 W X acc)) (dec W (t2 W X acc)) (dec W (t3 W X acc)) (dec W (t4 W X acc)) (dec W (t5 W X acc)) (dec W (t6 W X acc)) (dec W (t7 W X acc))⟩],
           [⟨Rect.unit (s := S2048x32) (k0_off1 k) S8x32.size (k0_off1_inb k), k0_pay45 (enc W (row8 X 0 slices_S8x32_o0_0_S1x32) acc) (enc W (row8 X 1 slices_S8x32_o1_0_S1x32) (t1 W X acc)) (enc W (row8 X 2 slices_S8x32_o2_0_S1x32) (t2 W X acc)) (enc W (row8 X 3 slices_S8x32_o3_0_S1x32) (t3 W X acc)) (enc W (row8 X 4 slices_S8x32_o4_0_S1x32) (t4 W X acc)) (enc W (row8 X 5 slices_S8x32_o5_0_S1x32) (t5 W X acc)) (enc W (row8 X 6 slices_S8x32_o6_0_S1x32) (t6 W X acc)) (enc W (row8 X 7 slices_S8x32_o7_0_S1x32) (t7 W X acc))⟩]) := by
    unfold tripL_k0_t1 trip_k0_t1
    rfl
  refine ⟨?_, _, _, _, hl, ?_⟩
  · unfold tripR_k0_t1 trip_k0_t1
    rfl
  · intro hX hacc r l
    have hrow := row8_eq arg19 hX k
    obtain ⟨e1, e2, e3, e4, e5, e6, e7, e8⟩ := t_eq W hrow hacc
    rw [e1, e2, e3, e4, e5, e6, e7, hrow 0 (by decide), hrow 1 (by decide), hrow 2 (by decide), hrow 3 (by decide), hrow 4 (by decide), hrow 5 (by decide), hrow 6 (by decide), hrow 7 (by decide), hacc]
    exact ⟨stack8 (fun j => hid W cy h0 (8 * k.val + j)) (ix2 r l), stack8 (fun j => dec W (hid W cy h0 (8 * k.val + j))) (ix2 r l),
      stack8 (fun j => enc W (rowAt cy (8 * k.val + j)) (hid W cy h0 (8 * k.val + j))) (ix2 r l)⟩

set_option maxHeartbeats 2000000 in
/-- The state before trip `k`: the carried row is the recurrence's row `8 k`, and the rows below `8 k` of the three matrices are its rows. -/
theorem st_eq (hX : arg19.view.read (Elt F) X19 = cy) : ∀ k : ℕ, k ≤ 256 →
    (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v2 v3 v5 v6 v8 v9 v11 v17 v21 v22 v23 v24 v26 X19 h0 k).1 = hid (wts v0 v2 v3 v5 v6 v8 v9 v11 v17 v21 v22 v23 v24 v26) cy h0 (8 * k)
    ∧ (∀ f, ∀ y : S2048x32.Idx, (y 0).val < 8 * k → arg20.view.read (Elt F) (arg20.view.writes (Elt F) f (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v2 v3 v5 v6 v8 v9 v11 v17 v21 v22 v23 v24 v26 X19 h0 k).2.1) y = hidM (wts v0 v2 v3 v5 v6 v8 v9 v11 v17 v21 v22 v23 v24 v26) cy h0 y)
    ∧ (∀ f, ∀ y : S2048x32.Idx, (y 0).val < 8 * k → arg21.view.read (Elt F) (arg21.view.writes (Elt F) f (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v2 v3 v5 v6 v8 v9 v11 v17 v21 v22 v23 v24 v26 X19 h0 k).2.2.1) y = decM (wts v0 v2 v3 v5 v6 v8 v9 v11 v17 v21 v22 v23 v24 v26) cy h0 y)
    ∧ (∀ f, ∀ y : S2048x32.Idx, (y 0).val < 8 * k → arg22.view.read (Elt F) (arg22.view.writes (Elt F) f (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v2 v3 v5 v6 v8 v9 v11 v17 v21 v22 v23 v24 v26 X19 h0 k).2.2.2) y = encM (wts v0 v2 v3 v5 v6 v8 v9 v11 v17 v21 v22 v23 v24 v26) cy h0 y) := by
  intro k
  induction k with
  | zero => intro _; exact ⟨rfl, fun f y hy => absurd hy (by omega), fun f y hy => absurd hy (by omega), fun f y hy => absurd hy (by omega)⟩
  | succ k ih =>
    intro hk
    obtain ⟨i1, i2, i3, i4⟩ := ih (by omega)
    have hk' : k < k0_t1_loop.trips := by rw [show k0_t1_loop.trips = 256 from by decide]; omega
    have hs := st_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v2 v3 v5 v6 v8 v9 v11 v17 v21 v22 v23 v24 v26 X19 h0 ⟨k, hk'⟩
    obtain ⟨hR, w1, w2, w3, hL, hw⟩ := trip_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v2 v3 v5 v6 v8 v9 v11 v17 v21 v22 v23 v24 v26 X19 cy h0 ⟨k, hk'⟩ (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v2 v3 v5 v6 v8 v9 v11 v17 v21 v22 v23 v24 v26 X19 h0 k).1
    have hw := hw hX i1
    have hrow := row8_eq arg19 hX ⟨k, hk'⟩
    have hs2 := hs.trans (congrArg₂ (fun R (L : List (View.Piece (Elt F) S2048x32 .f32) × List (View.Piece (Elt F) S2048x32 .f32) × List (View.Piece (Elt F) S2048x32 .f32)) =>
      (R, L.1 ++ (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v2 v3 v5 v6 v8 v9 v11 v17 v21 v22 v23 v24 v26 X19 h0 k).2.1, L.2.1 ++ (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v2 v3 v5 v6 v8 v9 v11 v17 v21 v22 v23 v24 v26 X19 h0 k).2.2.1, L.2.2 ++ (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v2 v3 v5 v6 v8 v9 v11 v17 v21 v22 v23 v24 v26 X19 h0 k).2.2.2)) hR hL)
    rw [hs2]
    refine ⟨(t_eq (wts v0 v2 v3 v5 v6 v8 v9 v11 v17 v21 v22 v23 v24 v26) hrow i1).2.2.2.2.2.2.2, fun f => ?_, fun f => ?_, fun f => ?_⟩
    · exact rows_step arg20.view f _ ⟨k, hk'⟩ _ w1 (i2 f) fun r l h => (hw r l).1
    · exact rows_step arg21.view f _ ⟨k, hk'⟩ _ w2 (i3 f) fun r l h => (hw r l).2.1
    · exact rows_step arg22.view f _ ⟨k, hk'⟩ _ w3 (i4 f) fun r l h => (hw r l).2.2

/-- After the loop: the carried row is the recurrence's last and the three matrices hold its rows. -/
theorem st_last (hX : arg19.view.read (Elt F) X19 = cy) :
    (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v2 v3 v5 v6 v8 v9 v11 v17 v21 v22 v23 v24 v26 X19 h0 (Scf.trips k0_t1_loop.lb k0_t1_loop.ub k0_t1_loop.st)).1 = hid (wts v0 v2 v3 v5 v6 v8 v9 v11 v17 v21 v22 v23 v24 v26) cy h0 2048
    ∧ (∀ f, arg20.view.read (Elt F) (arg20.view.writes (Elt F) f (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v2 v3 v5 v6 v8 v9 v11 v17 v21 v22 v23 v24 v26 X19 h0 (Scf.trips k0_t1_loop.lb k0_t1_loop.ub k0_t1_loop.st)).2.1) = hidM (wts v0 v2 v3 v5 v6 v8 v9 v11 v17 v21 v22 v23 v24 v26) cy h0)
    ∧ (∀ f, arg21.view.read (Elt F) (arg21.view.writes (Elt F) f (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v2 v3 v5 v6 v8 v9 v11 v17 v21 v22 v23 v24 v26 X19 h0 (Scf.trips k0_t1_loop.lb k0_t1_loop.ub k0_t1_loop.st)).2.2.1) = decM (wts v0 v2 v3 v5 v6 v8 v9 v11 v17 v21 v22 v23 v24 v26) cy h0)
    ∧ (∀ f, arg22.view.read (Elt F) (arg22.view.writes (Elt F) f (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v2 v3 v5 v6 v8 v9 v11 v17 v21 v22 v23 v24 v26 X19 h0 (Scf.trips k0_t1_loop.lb k0_t1_loop.ub k0_t1_loop.st)).2.2.2) = encM (wts v0 v2 v3 v5 v6 v8 v9 v11 v17 v21 v22 v23 v24 v26) cy h0) := by
  rw [show Scf.trips k0_t1_loop.lb k0_t1_loop.ub k0_t1_loop.st = 256 from by decide]
  obtain ⟨i1, i2, i3, i4⟩ := st_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v0 v2 v3 v5 v6 v8 v9 v11 v17 v21 v22 v23 v24 v26 X19 cy h0 hX 256 le_rfl
  exact ⟨i1, fun f => funext fun y => i2 f y (y 0).isLt, fun f => funext fun y => i3 f y (y 0).isLt, fun f => funext fun y => i4 f y (y 0).isLt⟩

end Cert.KernelIdeal.Hand

end
-- ==== Proof.IdealBody.lean ====
/-
  One grid point: what the kernel body leaves in the blocks and the scratch, from what they held.
-/
module

public import proofs.«01_k».proof.Proof.IdealLoop

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The network's weights and biases and the noise covariance, as the kernel's blocks hold them. -/
structure Prm (F : FTy → Type) where
  We1 : Vec F S3x32 .f32
  be1 : Vec F S1x32 .f32
  We2 : Vec F S32x6 .f32
  be2 : Vec F S1x6 .f32
  Wt1 : Vec F S6x32 .f32
  bt1 : Vec F S1x32 .f32
  Wt2 : Vec F S32x6 .f32
  bt2 : Vec F S1x6 .f32
  Wd1 : Vec F S6x32 .f32
  bd1 : Vec F S1x32 .f32
  Wd2 : Vec F S32x3 .f32
  bd2 : Vec F S1x3 .f32
  R : Vec F S3x3 .f32

/-- The products the loop's rows use. -/
def Prm.W (p : Prm F) : Wts F :=
  ⟨k0_pay36 p.Wt2 p.Wd1, k0_pay37 p.We1 p.Wd2, k0_pay38 p.Wt1 p.Wt2, k0_pay39 p.We2 p.Wt1, k0_pay40 p.bt2 p.Wd1 p.bd1,
    k0_pay41 (k0_pay30 p.be2) p.Wt1 (k0_pay31 p.bt1) (k0_pay32 p.bt2)⟩

/-- The measurements' block through the encoder's first layer. -/
def Prm.cy (p : Prm F) (y : Vec F S2048x3 .f32) : FVec F S2048x32 .f32 := k0_pay42 p.We1 (k0_pay29 p.be1) (k0_pay33 p.bd2) y

/-- A block's latents, from the carried row. -/
def Prm.lat (p : Prm F) (y : Vec F S2048x3 .f32) (h : FVec F S1x32 .f32) : FVec F S2048x6 .f32 :=
  k0_pay48 p.We2 (k0_pay30 p.be2) p.Wt2 (k0_pay32 p.bt2) (hidM p.W (p.cy y) h) (encM p.W (p.cy y) h)

/-- The row a block hands to the next. -/
def Prm.carry (p : Prm F) (y : Vec F S2048x3 .f32) (h : FVec F S1x32 .f32) : FVec F S1x32 .f32 := k0_pay47 (hid p.W (p.cy y) h 2048)

/-- A block's innovations, from the carried row. -/
def Prm.innov (p : Prm F) (y : Vec F S2048x3 .f32) (h : FVec F S1x32 .f32) : FVec F S2048x3 .f32 :=
  k0_pay49 p.Wd2 (k0_pay33 p.bd2) (decM p.W (p.cy y) h) y (constant S2048x3 .f32 0x00000000#32)

/-- A block's weighted squares, from its innovations. -/
def Prm.sq (p : Prm F) (z : FVec F S2048x3 .f32) : FVec F S1x2048x3 .f32 :=
  k0_pay56 z (k0_pay50 (p.R (ix2 0 0))) (p.R (ix2 0 1)) (p.R (ix2 0 2)) (p.R (ix2 1 0)) (k0_pay51 (p.R (ix2 1 1))) (p.R (ix2 1 2))
    (p.R (ix2 2 0)) (p.R (ix2 2 1)) (k0_pay52 (p.R (ix2 2 2)))
    (k0_pay53 (p.R (ix2 0 0)) (p.R (ix2 0 1)) (p.R (ix2 0 2)) (p.R (ix2 1 0)) (p.R (ix2 1 1)) (p.R (ix2 1 2)) (p.R (ix2 2 0)) (p.R (ix2 2 1)) (p.R (ix2 2 2)))
    k0_pay54
    (k0_pay55 (p.R (ix2 0 0)) (p.R (ix2 0 1)) (p.R (ix2 0 2)) (p.R (ix2 1 0)) (p.R (ix2 1 1)) (p.R (ix2 1 2)) (p.R (ix2 2 0)) (p.R (ix2 2 1)) (p.R (ix2 2 2)))

/-- The accumulated loss after a block. -/
def Prm.acc (p : Prm F) (y : Vec F S2048x3 .f32) (h : FVec F S1x32 .f32) (l : FVec F S1x1 .f32) : FVec F S1x1 .f32 :=
  k0_pay1 l (p.sq (p.innov y h))

/-- The condition of the body's `pl.when`: the first point. -/
abbrev cond0 (i : grid0.Coords) : Prop := (Scalar.cmpi .ne (Scalar.extui (Scalar.cmpi .eq (BitVec.ofNat 32 (i 0).val) 0#32)) 0#32) = 1#1

/-- A buffer whose contents read as `X` owns `X`. -/
theorem owns_of (c : Dev nD) {sp : Space} {sh : Shape} {e : EltTy} (M : Memref sig .tc sp sh e) (f : M.view.ty.Contents (Elt F)) {X : sh.Idx → Elt F e}
    (h : M.view.read (Elt F) f = X) :
    (M.view.loc (c : Thread nD τ) ↦[M.view.set]{fullShare} f : sProp 𝕄) ⊢ owns (c : Thread nD τ) M fullShare X := by
  unfold owns; iintro H; iexists f; isplitr
  · ipureintro; exact h
  iexact H

/-- A buffer at any contents owns some value. -/
theorem owns_ex_of (c : Dev nD) {sp : Space} {sh : Shape} {e : EltTy} (M : Memref sig .tc sp sh e) (f : M.view.ty.Contents (Elt F)) :
    (M.view.loc (c : Thread nD τ) ↦[M.view.set]{fullShare} f : sProp 𝕄) ⊢ iprop(∃ X, owns (c : Thread nD τ) M fullShare X) := by
  iintro H; iexists (M.view.read (Elt F) f); iapply owns_of c M f rfl $$ H

/-- A whole buffer owning `X` is at the contents that read as `X`. -/
theorem owns_pts (c : Dev nD) {sp : Space} {sh : Shape} {e : EltTy} (M : Memref sig .tc sp sh e) (hM : M.IsWhole) (X : sh.Idx → Elt F e) :
    (owns (c : Thread nD τ) M fullShare X : sProp 𝕄) ⊢ (M.view.loc (c : Thread nD τ) ↦[M.view.set]{fullShare} hM.unread X : sProp 𝕄) := by
  unfold owns; iintro ⟨%f, %hf, H⟩; obtain rfl := hM.eq_unread hf; iexact H

/-- One scalar load of the noise covariance reads its element. -/
theorem smem_rd (M : Memref sig .tc .smem S3x3 .f32) (hM : M.IsWhole) (x : Vec F S3x3 .f32) (a b : ℕ) (ha : a < 3) (hb : b < 3)
    (inb : ∀ d, (![a, b] : Fin 2 → ℕ) d + S1x1.size d ≤ S3x3.size d) (hn) :
    M.view.readAt (Elt F) (Rect.unit (s := S3x3) ![a, b] S1x1.size inb).toLoadRect (hM.unread x) (Shape.Idx.first hn) = x (ix2 ⟨a, ha⟩ ⟨b, hb⟩) := by
  rw [View.readAt_unit M.view _ inb rfl inb, hM.read_unread]
  refine congrArg x (funext fun d => Fin.ext ?_)
  match d with
  | ⟨0, _⟩ => rfl
  | ⟨1, _⟩ => rfl

/-- A whole buffer at the contents that read as `x`, loaded whole, gives `x`. -/
theorem rd {sp : Space} {sh : Shape} {e : EltTy} (M : Memref sig .tc sp sh e) (hM : M.IsWhole) (x : sh.Idx → Elt F e) {off : Fin sh.rank → ℕ}
    (inb : ∀ a, off a + sh.size a ≤ sh.size a) : M.view.readAt (Elt F) (Rect.unit off sh.size inb).toLoadRect (hM.unread x) = x :=
  (View.readAt_full M.view _ inb).trans (hM.read_unread x)

set_option maxHeartbeats 8000000 in
/-- A point after the first: the block's results from the carried row and loss. -/
theorem body_rest (c : Dev nD) (i : grid0.Coords) (arg1 : Memref sig .tc .vmem S2048x3 .f32) (harg1 : arg1.IsWhole) (arg2 : Memref sig .tc .vmem S3x32 .f32) (harg2 : arg2.IsWhole) (arg3 : Memref sig .tc .vmem S1x32 .f32) (harg3 : arg3.IsWhole) (arg4 : Memref sig .tc .vmem S32x6 .f32) (harg4 : arg4.IsWhole) (arg5 : Memref sig .tc .vmem S1x6 .f32) (harg5 : arg5.IsWhole) (arg6 : Memref sig .tc .vmem S6x32 .f32) (harg6 : arg6.IsWhole) (arg7 : Memref sig .tc .vmem S1x32 .f32) (harg7 : arg7.IsWhole) (arg8 : Memref sig .tc .vmem S32x6 .f32) (harg8 : arg8.IsWhole) (arg9 : Memref sig .tc .vmem S1x6 .f32) (harg9 : arg9.IsWhole) (arg10 : Memref sig .tc .vmem S6x32 .f32) (harg10 : arg10.IsWhole) (arg11 : Memref sig .tc .vmem S1x32 .f32) (harg11 : arg11.IsWhole) (arg12 : Memref sig .tc .vmem S32x3 .f32) (harg12 : arg12.IsWhole) (arg13 : Memref sig .tc .vmem S1x3 .f32) (harg13 : arg13.IsWhole) (arg14 : Memref sig .tc .smem S3x3 .f32) (harg14 : arg14.IsWhole) (arg15 : Memref sig .tc .vmem S1x1 .f32) (harg15 : arg15.IsWhole) (arg16 : Memref sig .tc .vmem S2048x6 .f32) (harg16 : arg16.IsWhole) (arg17 : Memref sig .tc .vmem S1x32 .f32) (harg17 : arg17.IsWhole) (arg18 : Memref sig .tc .vmem S1x1 .f32) (harg18 : arg18.IsWhole) (arg19 : Memref sig .tc .vmem S2048x32 .f32) (harg19 : arg19.IsWhole) (arg20 : Memref sig .tc .vmem S2048x32 .f32) (harg20 : arg20.IsWhole) (arg21 : Memref sig .tc .vmem S2048x32 .f32) (harg21 : arg21.IsWhole) (arg22 : Memref sig .tc .vmem S2048x32 .f32) (harg22 : arg22.IsWhole)
    (hc0 : ¬cond0 i) (x0 : Vec F S2048x3 .f32) (x1 : Vec F S3x32 .f32) (x2 : Vec F S1x32 .f32) (x3 : Vec F S32x6 .f32) (x4 : Vec F S1x6 .f32) (x5 : Vec F S6x32 .f32) (x6 : Vec F S1x32 .f32) (x7 : Vec F S32x6 .f32) (x8 : Vec F S1x6 .f32) (x9 : Vec F S6x32 .f32) (x10 : Vec F S1x32 .f32) (x11 : Vec F S32x3 .f32) (x12 : Vec F S1x3 .f32) (x13 : Vec F S3x3 .f32) (h : Vec F S1x32 .f32) (l : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ owns (c : Thread nD τ) arg17 fullShare h ∗ owns (c : Thread nD τ) arg18 fullShare l ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (k0_pay2 (Prm.acc ⟨x1, x2, x3, x4, x5, x6, x7, x8, x9, x10, x11, x12, x13⟩ x0 h l)) ∗ owns (c : Thread nD τ) arg16 fullShare (Prm.lat ⟨x1, x2, x3, x4, x5, x6, x7, x8, x9, x10, x11, x12, x13⟩ x0 h)
                ∗ owns (c : Thread nD τ) arg17 fullShare (Prm.carry ⟨x1, x2, x3, x4, x5, x6, x7, x8, x9, x10, x11, x12, x13⟩ x0 h) ∗ owns (c : Thread nD τ) arg18 fullShare (Prm.acc ⟨x1, x2, x3, x4, x5, x6, x7, x8, x9, x10, x11, x12, x13⟩ x0 h l)
                ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0__nssm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__nssm_kernel_eq_skeleton]; unfold cc0__nssm_kernel_skel
  simp only [k0_part4_eq_skeleton, k0_part5_eq_skeleton, k0_part6_eq_skeleton, k0_part7_eq_skeleton]
  iintro ⟨H0, H1, H2, H3, H4, H5, H6, H7, H8, H9, H10, H11, H12, H13, ⟨%d14, H14⟩, ⟨%d15, H15⟩, HS0, HS1, ⟨%ds2, HS2⟩, ⟨%ds3, HS3⟩, ⟨%ds4, HS4⟩, ⟨%ds5, HS5⟩, Hk⟩
  ihave H0 := owns_pts c arg1 harg1 x0 $$ H0
  ihave H1 := owns_pts c arg2 harg2 x1 $$ H1
  ihave H2 := owns_pts c arg3 harg3 x2 $$ H2
  ihave H3 := owns_pts c arg4 harg4 x3 $$ H3
  ihave H4 := owns_pts c arg5 harg5 x4 $$ H4
  ihave H5 := owns_pts c arg6 harg6 x5 $$ H5
  ihave H6 := owns_pts c arg7 harg7 x6 $$ H6
  ihave H7 := owns_pts c arg8 harg8 x7 $$ H7
  ihave H8 := owns_pts c arg9 harg9 x8 $$ H8
  ihave H9 := owns_pts c arg10 harg10 x9 $$ H9
  ihave H10 := owns_pts c arg11 harg11 x10 $$ H10
  ihave H11 := owns_pts c arg12 harg12 x11 $$ H11
  ihave H12 := owns_pts c arg13 harg13 x12 $$ H12
  ihave H13 := owns_pts c arg14 harg14 x13 $$ H13
  ihave H14 := owns_pts c arg15 harg15 d14 $$ H14
  ihave H15 := owns_pts c arg16 harg16 d15 $$ H15
  ihave HS0 := owns_pts c arg17 harg17 h $$ HS0
  ihave HS1 := owns_pts c arg18 harg18 l $$ HS1
  ihave HS2 := owns_pts c arg19 harg19 ds2 $$ HS2
  ihave HS3 := owns_pts c arg20 harg20 ds3 $$ HS3
  ihave HS4 := owns_pts c arg21 harg21 ds4 $$ HS4
  ihave HS5 := owns_pts c arg22 harg22 ds5 $$ HS5
  sl_exec (disch := first | sl_exact hc0)
  sl_step
  iapply Hk
  isplitl [H0]; · iapply owns_of c arg1 _ (harg1.read_unread _) $$ H0
  isplitl [H1]; · iapply owns_of c arg2 _ (harg2.read_unread _) $$ H1
  isplitl [H2]; · iapply owns_of c arg3 _ (harg3.read_unread _) $$ H2
  isplitl [H3]; · iapply owns_of c arg4 _ (harg4.read_unread _) $$ H3
  isplitl [H4]; · iapply owns_of c arg5 _ (harg5.read_unread _) $$ H4
  isplitl [H5]; · iapply owns_of c arg6 _ (harg6.read_unread _) $$ H5
  isplitl [H6]; · iapply owns_of c arg7 _ (harg7.read_unread _) $$ H6
  isplitl [H7]; · iapply owns_of c arg8 _ (harg8.read_unread _) $$ H7
  isplitl [H8]; · iapply owns_of c arg9 _ (harg9.read_unread _) $$ H8
  isplitl [H9]; · iapply owns_of c arg10 _ (harg10.read_unread _) $$ H9
  isplitl [H10]; · iapply owns_of c arg11 _ (harg11.read_unread _) $$ H10
  isplitl [H11]; · iapply owns_of c arg12 _ (harg12.read_unread _) $$ H11
  isplitl [H12]; · iapply owns_of c arg13 _ (harg13.read_unread _) $$ H12
  isplitl [H13]; · iapply owns_of c arg14 _ (harg14.read_unread _) $$ H13
  have s00 := smem_rd arg14 harg14 x13 0 0 (by decide) (by decide)
  have s01 := smem_rd arg14 harg14 x13 0 1 (by decide) (by decide)
  have s02 := smem_rd arg14 harg14 x13 0 2 (by decide) (by decide)
  have s10 := smem_rd arg14 harg14 x13 1 0 (by decide) (by decide)
  have s11 := smem_rd arg14 harg14 x13 1 1 (by decide) (by decide)
  have s12 := smem_rd arg14 harg14 x13 1 2 (by decide) (by decide)
  have s20 := smem_rd arg14 harg14 x13 2 0 (by decide) (by decide)
  have s21 := smem_rd arg14 harg14 x13 2 1 (by decide) (by decide)
  have s22 := smem_rd arg14 harg14 x13 2 2 (by decide) (by decide)
  have q1 : arg1.view.readAt (Elt F) (Rect.unit (s := S2048x3) ![0, 0] ![2048, 3] inb_S2048x3_S2048x3_0_0).toLoadRect (harg1.unread x0) = x0 := rd arg1 harg1 x0 _
  have q2 : arg2.view.readAt (Elt F) (Rect.unit (s := S3x32) ![0, 0] ![3, 32] inb_S3x32_S3x32_0_0).toLoadRect (harg2.unread x1) = x1 := rd arg2 harg2 x1 _
  have q3 : arg3.view.readAt (Elt F) (Rect.unit (s := S1x32) ![0, 0] ![1, 32] inb_S1x32_S1x32_0_0).toLoadRect (harg3.unread x2) = x2 := rd arg3 harg3 x2 _
  have q4 : arg4.view.readAt (Elt F) (Rect.unit (s := S32x6) ![0, 0] ![32, 6] inb_S32x6_S32x6_0_0).toLoadRect (harg4.unread x3) = x3 := rd arg4 harg4 x3 _
  have q5 : arg5.view.readAt (Elt F) (Rect.unit (s := S1x6) ![0, 0] ![1, 6] inb_S1x6_S1x6_0_0).toLoadRect (harg5.unread x4) = x4 := rd arg5 harg5 x4 _
  have q6 : arg6.view.readAt (Elt F) (Rect.unit (s := S6x32) ![0, 0] ![6, 32] inb_S6x32_S6x32_0_0).toLoadRect (harg6.unread x5) = x5 := rd arg6 harg6 x5 _
  have q7 : arg7.view.readAt (Elt F) (Rect.unit (s := S1x32) ![0, 0] ![1, 32] inb_S1x32_S1x32_0_0).toLoadRect (harg7.unread x6) = x6 := rd arg7 harg7 x6 _
  have q8 : arg8.view.readAt (Elt F) (Rect.unit (s := S32x6) ![0, 0] ![32, 6] inb_S32x6_S32x6_0_0).toLoadRect (harg8.unread x7) = x7 := rd arg8 harg8 x7 _
  have q9 : arg9.view.readAt (Elt F) (Rect.unit (s := S1x6) ![0, 0] ![1, 6] inb_S1x6_S1x6_0_0).toLoadRect (harg9.unread x8) = x8 := rd arg9 harg9 x8 _
  have q10 : arg10.view.readAt (Elt F) (Rect.unit (s := S6x32) ![0, 0] ![6, 32] inb_S6x32_S6x32_0_0).toLoadRect (harg10.unread x9) = x9 := rd arg10 harg10 x9 _
  have q11 : arg11.view.readAt (Elt F) (Rect.unit (s := S1x32) ![0, 0] ![1, 32] inb_S1x32_S1x32_0_0).toLoadRect (harg11.unread x10) = x10 := rd arg11 harg11 x10 _
  have q12 : arg12.view.readAt (Elt F) (Rect.unit (s := S32x3) ![0, 0] ![32, 3] inb_S32x3_S32x3_0_0).toLoadRect (harg12.unread x11) = x11 := rd arg12 harg12 x11 _
  have q13 : arg13.view.readAt (Elt F) (Rect.unit (s := S1x3) ![0, 0] ![1, 3] inb_S1x3_S1x3_0_0).toLoadRect (harg13.unread x12) = x12 := rd arg13 harg13 x12 _
  have q17 : arg17.view.readAt (Elt F) (Rect.unit (s := S1x32) ![0, 0] ![1, 32] inb_S1x32_S1x32_0_0).toLoadRect (harg17.unread h) = h := rd arg17 harg17 h _
  have q18 : arg18.view.readAt (Elt F) (Rect.unit (s := S1x1) ![0, 0] ![1, 1] inb_S1x1_S1x1_0_0).toLoadRect (harg18.unread l) = l := rd arg18 harg18 l _
  have q20 : ∀ f, arg20.view.readAt (Elt F) (Rect.unit (s := S2048x32) ![0, 0] ![2048, 32] inb_S2048x32_S2048x32_0_0).toLoadRect f = arg20.view.read (Elt F) f := fun f => View.readAt_full arg20.view f _
  have q21 : ∀ f, arg21.view.readAt (Elt F) (Rect.unit (s := S2048x32) ![0, 0] ![2048, 32] inb_S2048x32_S2048x32_0_0).toLoadRect f = arg21.view.read (Elt F) f := fun f => View.readAt_full arg21.view f _
  have q22 : ∀ f, arg22.view.readAt (Elt F) (Rect.unit (s := S2048x32) ![0, 0] ![2048, 32] inb_S2048x32_S2048x32_0_0).toLoadRect f = arg22.view.read (Elt F) f := fun f => View.readAt_full arg22.view f _
  have st := st_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 (k0_pay29 x2) x3 (k0_pay30 x4) x5 (k0_pay31 x6) x7 (k0_pay32 x8) (k0_pay33 x12) (k0_pay36 x7 x9) (k0_pay37 x1 x11) (k0_pay38 x5 x7) (k0_pay39 x3 x5) (k0_pay40 x8 x9 x10) (arg19.view.writes (Elt F) arg19.view.junk [⟨Rect.unit (s := S2048x32) ![0, 0] S2048x32.size inb_S2048x32_S2048x32_0_0, k0_pay42 x1 (k0_pay29 x2) (k0_pay33 x12) x0⟩])
    (k0_pay42 x1 (k0_pay29 x2) (k0_pay33 x12) x0) h (View.read_writes_full _ _ _ _ _)
  isplitl [H14]
  · iapply owns_of c arg15 _ ?_ $$ H14
    refine (View.read_writes_full arg15.view _ inb_S1x1_S1x1_0_0 _ []).trans (congrArg k0_pay2 ?_)
    delta body_rest.sl.v158 body_rest.sl.HS1_1
    refine (View.readCov_full arg18.view inb_S1x1_S1x1_0_0 inb_S1x1_S1x1_0_0 _ _).trans ?_
    sl_unfold_run_names
    simp only [q1, q2, q3, q4, q5, q6, q7, q8, q9, q10, q11, q12, q13, q17, q18, q20, q21, q22, s00, s01, s02, s10, s11, s12, s20, s21, s22]
    rw [st.2.2.1]
    rfl
  isplitl [H15]
  · iapply owns_of c arg16 _ ?_ $$ H15
    refine (View.read_writes_full arg16.view _ inb_S2048x6_S2048x6_0_0 _ []).trans ?_
    sl_unfold_run_names
    simp only [q1, q2, q3, q4, q5, q6, q7, q8, q9, q10, q11, q12, q13, q17, q18, q20, q21, q22]
    rw [st.2.1, st.2.2.2]
    rfl
  isplitl [HS0]
  · iapply owns_of c arg17 _ ?_ $$ HS0
    refine (View.read_writes_full arg17.view _ inb_S1x32_S1x32_0_0 _ _).trans ?_
    sl_unfold_run_names
    simp only [q1, q2, q3, q4, q5, q6, q7, q8, q9, q10, q11, q12, q13, q17, q18, q20, q21, q22]
    exact congrArg k0_pay47 st.1
  isplitl [HS1]
  · iapply owns_of c arg18 _ ?_ $$ HS1
    delta body_rest.sl.HS1_1
    refine (View.read_writes_full arg18.view _ inb_S1x1_S1x1_0_0 _ _).trans ?_
    sl_unfold_run_names
    simp only [q1, q2, q3, q4, q5, q6, q7, q8, q9, q10, q11, q12, q13, q17, q18, q20, q21, q22, s00, s01, s02, s10, s11, s12, s20, s21, s22]
    rw [st.2.2.1]
    rfl
  isplitl [HS2]; · iapply owns_ex_of c arg19 _ $$ HS2
  isplitl [HS3]; · iapply owns_ex_of c arg20 _ $$ HS3
  isplitl [HS4]; · iapply owns_ex_of c arg21 _ $$ HS4
  iapply owns_ex_of c arg22 _ $$ HS5

set_option maxHeartbeats 8000000 in
/-- The first point: the block's results from the initial row and a zero loss, whatever the scratch held. -/
theorem body_first (c : Dev nD) (i : grid0.Coords) (arg1 : Memref sig .tc .vmem S2048x3 .f32) (harg1 : arg1.IsWhole) (arg2 : Memref sig .tc .vmem S3x32 .f32) (harg2 : arg2.IsWhole) (arg3 : Memref sig .tc .vmem S1x32 .f32) (harg3 : arg3.IsWhole) (arg4 : Memref sig .tc .vmem S32x6 .f32) (harg4 : arg4.IsWhole) (arg5 : Memref sig .tc .vmem S1x6 .f32) (harg5 : arg5.IsWhole) (arg6 : Memref sig .tc .vmem S6x32 .f32) (harg6 : arg6.IsWhole) (arg7 : Memref sig .tc .vmem S1x32 .f32) (harg7 : arg7.IsWhole) (arg8 : Memref sig .tc .vmem S32x6 .f32) (harg8 : arg8.IsWhole) (arg9 : Memref sig .tc .vmem S1x6 .f32) (harg9 : arg9.IsWhole) (arg10 : Memref sig .tc .vmem S6x32 .f32) (harg10 : arg10.IsWhole) (arg11 : Memref sig .tc .vmem S1x32 .f32) (harg11 : arg11.IsWhole) (arg12 : Memref sig .tc .vmem S32x3 .f32) (harg12 : arg12.IsWhole) (arg13 : Memref sig .tc .vmem S1x3 .f32) (harg13 : arg13.IsWhole) (arg14 : Memref sig .tc .smem S3x3 .f32) (harg14 : arg14.IsWhole) (arg15 : Memref sig .tc .vmem S1x1 .f32) (harg15 : arg15.IsWhole) (arg16 : Memref sig .tc .vmem S2048x6 .f32) (harg16 : arg16.IsWhole) (arg17 : Memref sig .tc .vmem S1x32 .f32) (harg17 : arg17.IsWhole) (arg18 : Memref sig .tc .vmem S1x1 .f32) (harg18 : arg18.IsWhole) (arg19 : Memref sig .tc .vmem S2048x32 .f32) (harg19 : arg19.IsWhole) (arg20 : Memref sig .tc .vmem S2048x32 .f32) (harg20 : arg20.IsWhole) (arg21 : Memref sig .tc .vmem S2048x32 .f32) (harg21 : arg21.IsWhole) (arg22 : Memref sig .tc .vmem S2048x32 .f32) (harg22 : arg22.IsWhole)
    (hc0 : cond0 i) (x0 : Vec F S2048x3 .f32) (x1 : Vec F S3x32 .f32) (x2 : Vec F S1x32 .f32) (x3 : Vec F S32x6 .f32) (x4 : Vec F S1x6 .f32) (x5 : Vec F S6x32 .f32) (x6 : Vec F S1x32 .f32) (x7 : Vec F S32x6 .f32) (x8 : Vec F S1x6 .f32) (x9 : Vec F S6x32 .f32) (x10 : Vec F S1x32 .f32) (x11 : Vec F S32x3 .f32) (x12 : Vec F S1x3 .f32) (x13 : Vec F S3x3 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (k0_pay2 (Prm.acc ⟨x1, x2, x3, x4, x5, x6, x7, x8, x9, x10, x11, x12, x13⟩ x0 (k0_pay34 x6) k0_pay35)) ∗ owns (c : Thread nD τ) arg16 fullShare (Prm.lat ⟨x1, x2, x3, x4, x5, x6, x7, x8, x9, x10, x11, x12, x13⟩ x0 (k0_pay34 x6))
                ∗ owns (c : Thread nD τ) arg17 fullShare (Prm.carry ⟨x1, x2, x3, x4, x5, x6, x7, x8, x9, x10, x11, x12, x13⟩ x0 (k0_pay34 x6)) ∗ owns (c : Thread nD τ) arg18 fullShare (Prm.acc ⟨x1, x2, x3, x4, x5, x6, x7, x8, x9, x10, x11, x12, x13⟩ x0 (k0_pay34 x6) k0_pay35)
                ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0__nssm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__nssm_kernel_eq_skeleton]; unfold cc0__nssm_kernel_skel
  simp only [k0_part4_eq_skeleton, k0_part5_eq_skeleton, k0_part6_eq_skeleton, k0_part7_eq_skeleton]
  iintro ⟨H0, H1, H2, H3, H4, H5, H6, H7, H8, H9, H10, H11, H12, H13, ⟨%d14, H14⟩, ⟨%d15, H15⟩, ⟨%ds0, HS0⟩, ⟨%ds1, HS1⟩, ⟨%ds2, HS2⟩, ⟨%ds3, HS3⟩, ⟨%ds4, HS4⟩, ⟨%ds5, HS5⟩, Hk⟩
  ihave H0 := owns_pts c arg1 harg1 x0 $$ H0
  ihave H1 := owns_pts c arg2 harg2 x1 $$ H1
  ihave H2 := owns_pts c arg3 harg3 x2 $$ H2
  ihave H3 := owns_pts c arg4 harg4 x3 $$ H3
  ihave H4 := owns_pts c arg5 harg5 x4 $$ H4
  ihave H5 := owns_pts c arg6 harg6 x5 $$ H5
  ihave H6 := owns_pts c arg7 harg7 x6 $$ H6
  ihave H7 := owns_pts c arg8 harg8 x7 $$ H7
  ihave H8 := owns_pts c arg9 harg9 x8 $$ H8
  ihave H9 := owns_pts c arg10 harg10 x9 $$ H9
  ihave H10 := owns_pts c arg11 harg11 x10 $$ H10
  ihave H11 := owns_pts c arg12 harg12 x11 $$ H11
  ihave H12 := owns_pts c arg13 harg13 x12 $$ H12
  ihave H13 := owns_pts c arg14 harg14 x13 $$ H13
  ihave H14 := owns_pts c arg15 harg15 d14 $$ H14
  ihave H15 := owns_pts c arg16 harg16 d15 $$ H15
  ihave HS0 := owns_pts c arg17 harg17 ds0 $$ HS0
  ihave HS1 := owns_pts c arg18 harg18 ds1 $$ HS1
  ihave HS2 := owns_pts c arg19 harg19 ds2 $$ HS2
  ihave HS3 := owns_pts c arg20 harg20 ds3 $$ HS3
  ihave HS4 := owns_pts c arg21 harg21 ds4 $$ HS4
  ihave HS5 := owns_pts c arg22 harg22 ds5 $$ HS5
  sl_exec (disch := first | sl_exact hc0)
  sl_step
  iapply Hk
  isplitl [H0]; · iapply owns_of c arg1 _ (harg1.read_unread _) $$ H0
  isplitl [H1]; · iapply owns_of c arg2 _ (harg2.read_unread _) $$ H1
  isplitl [H2]; · iapply owns_of c arg3 _ (harg3.read_unread _) $$ H2
  isplitl [H3]; · iapply owns_of c arg4 _ (harg4.read_unread _) $$ H3
  isplitl [H4]; · iapply owns_of c arg5 _ (harg5.read_unread _) $$ H4
  isplitl [H5]; · iapply owns_of c arg6 _ (harg6.read_unread _) $$ H5
  isplitl [H6]; · iapply owns_of c arg7 _ (harg7.read_unread _) $$ H6
  isplitl [H7]; · iapply owns_of c arg8 _ (harg8.read_unread _) $$ H7
  isplitl [H8]; · iapply owns_of c arg9 _ (harg9.read_unread _) $$ H8
  isplitl [H9]; · iapply owns_of c arg10 _ (harg10.read_unread _) $$ H9
  isplitl [H10]; · iapply owns_of c arg11 _ (harg11.read_unread _) $$ H10
  isplitl [H11]; · iapply owns_of c arg12 _ (harg12.read_unread _) $$ H11
  isplitl [H12]; · iapply owns_of c arg13 _ (harg13.read_unread _) $$ H12
  isplitl [H13]; · iapply owns_of c arg14 _ (harg14.read_unread _) $$ H13
  have s00 := smem_rd arg14 harg14 x13 0 0 (by decide) (by decide)
  have s01 := smem_rd arg14 harg14 x13 0 1 (by decide) (by decide)
  have s02 := smem_rd arg14 harg14 x13 0 2 (by decide) (by decide)
  have s10 := smem_rd arg14 harg14 x13 1 0 (by decide) (by decide)
  have s11 := smem_rd arg14 harg14 x13 1 1 (by decide) (by decide)
  have s12 := smem_rd arg14 harg14 x13 1 2 (by decide) (by decide)
  have s20 := smem_rd arg14 harg14 x13 2 0 (by decide) (by decide)
  have s21 := smem_rd arg14 harg14 x13 2 1 (by decide) (by decide)
  have s22 := smem_rd arg14 harg14 x13 2 2 (by decide) (by decide)
  have q1 : arg1.view.readAt (Elt F) (Rect.unit (s := S2048x3) ![0, 0] ![2048, 3] inb_S2048x3_S2048x3_0_0).toLoadRect (harg1.unread x0) = x0 := rd arg1 harg1 x0 _
  have q2 : arg2.view.readAt (Elt F) (Rect.unit (s := S3x32) ![0, 0] ![3, 32] inb_S3x32_S3x32_0_0).toLoadRect (harg2.unread x1) = x1 := rd arg2 harg2 x1 _
  have q3 : arg3.view.readAt (Elt F) (Rect.unit (s := S1x32) ![0, 0] ![1, 32] inb_S1x32_S1x32_0_0).toLoadRect (harg3.unread x2) = x2 := rd arg3 harg3 x2 _
  have q4 : arg4.view.readAt (Elt F) (Rect.unit (s := S32x6) ![0, 0] ![32, 6] inb_S32x6_S32x6_0_0).toLoadRect (harg4.unread x3) = x3 := rd arg4 harg4 x3 _
  have q5 : arg5.view.readAt (Elt F) (Rect.unit (s := S1x6) ![0, 0] ![1, 6] inb_S1x6_S1x6_0_0).toLoadRect (harg5.unread x4) = x4 := rd arg5 harg5 x4 _
  have q6 : arg6.view.readAt (Elt F) (Rect.unit (s := S6x32) ![0, 0] ![6, 32] inb_S6x32_S6x32_0_0).toLoadRect (harg6.unread x5) = x5 := rd arg6 harg6 x5 _
  have q7 : arg7.view.readAt (Elt F) (Rect.unit (s := S1x32) ![0, 0] ![1, 32] inb_S1x32_S1x32_0_0).toLoadRect (harg7.unread x6) = x6 := rd arg7 harg7 x6 _
  have q8 : arg8.view.readAt (Elt F) (Rect.unit (s := S32x6) ![0, 0] ![32, 6] inb_S32x6_S32x6_0_0).toLoadRect (harg8.unread x7) = x7 := rd arg8 harg8 x7 _
  have q9 : arg9.view.readAt (Elt F) (Rect.unit (s := S1x6) ![0, 0] ![1, 6] inb_S1x6_S1x6_0_0).toLoadRect (harg9.unread x8) = x8 := rd arg9 harg9 x8 _
  have q10 : arg10.view.readAt (Elt F) (Rect.unit (s := S6x32) ![0, 0] ![6, 32] inb_S6x32_S6x32_0_0).toLoadRect (harg10.unread x9) = x9 := rd arg10 harg10 x9 _
  have q11 : arg11.view.readAt (Elt F) (Rect.unit (s := S1x32) ![0, 0] ![1, 32] inb_S1x32_S1x32_0_0).toLoadRect (harg11.unread x10) = x10 := rd arg11 harg11 x10 _
  have q12 : arg12.view.readAt (Elt F) (Rect.unit (s := S32x3) ![0, 0] ![32, 3] inb_S32x3_S32x3_0_0).toLoadRect (harg12.unread x11) = x11 := rd arg12 harg12 x11 _
  have q13 : arg13.view.readAt (Elt F) (Rect.unit (s := S1x3) ![0, 0] ![1, 3] inb_S1x3_S1x3_0_0).toLoadRect (harg13.unread x12) = x12 := rd arg13 harg13 x12 _
  have q20 : ∀ f, arg20.view.readAt (Elt F) (Rect.unit (s := S2048x32) ![0, 0] ![2048, 32] inb_S2048x32_S2048x32_0_0).toLoadRect f = arg20.view.read (Elt F) f := fun f => View.readAt_full arg20.view f _
  have q21 : ∀ f, arg21.view.readAt (Elt F) (Rect.unit (s := S2048x32) ![0, 0] ![2048, 32] inb_S2048x32_S2048x32_0_0).toLoadRect f = arg21.view.read (Elt F) f := fun f => View.readAt_full arg21.view f _
  have q22 : ∀ f, arg22.view.readAt (Elt F) (Rect.unit (s := S2048x32) ![0, 0] ![2048, 32] inb_S2048x32_S2048x32_0_0).toLoadRect f = arg22.view.read (Elt F) f := fun f => View.readAt_full arg22.view f _
  have q17 : ∀ w : Vec F S1x32 .f32, arg17.view.readCov (Val := Elt F) [⟨Rect.unit (s := S1x32) ![0, 0] ![1, 32] inb_S1x32_S1x32_0_0, w⟩] (Rect.unit (s := S1x32) ![0, 0] ![1, 32] inb_S1x32_S1x32_0_0).toLoadRect = w := fun w => View.readCov_full arg17.view _ _ w []
  have q18 : ∀ w : Vec F S1x1 .f32, arg18.view.readCov (Val := Elt F) [⟨Rect.unit (s := S1x1) ![0, 0] ![1, 1] inb_S1x1_S1x1_0_0, w⟩] (Rect.unit (s := S1x1) ![0, 0] ![1, 1] inb_S1x1_S1x1_0_0).toLoadRect = w := fun w => View.readCov_full arg18.view _ _ w []
  have st := st_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x1 (k0_pay29 x2) x3 (k0_pay30 x4) x5 (k0_pay31 x6) x7 (k0_pay32 x8) (k0_pay33 x12) (k0_pay36 x7 x9) (k0_pay37 x1 x11) (k0_pay38 x5 x7) (k0_pay39 x3 x5) (k0_pay40 x8 x9 x10) (arg19.view.writes (Elt F) arg19.view.junk [⟨Rect.unit (s := S2048x32) ![0, 0] S2048x32.size inb_S2048x32_S2048x32_0_0, k0_pay42 x1 (k0_pay29 x2) (k0_pay33 x12) x0⟩])
    (k0_pay42 x1 (k0_pay29 x2) (k0_pay33 x12) x0) (k0_pay34 x6) (View.read_writes_full _ _ _ _ _)
  isplitl [H14]
  · iapply owns_of c arg15 _ ?_ $$ H14
    refine (View.read_writes_full arg15.view _ inb_S1x1_S1x1_0_0 _ []).trans (congrArg k0_pay2 ?_)
    delta body_first.sl.v158 body_first.sl.HS1_2
    refine (View.readCov_full arg18.view inb_S1x1_S1x1_0_0 inb_S1x1_S1x1_0_0 _ _).trans ?_
    sl_unfold_run_names
    simp only [q1, q2, q3, q4, q5, q6, q7, q8, q9, q10, q11, q12, q13, q17, q18, q20, q21, q22, s00, s01, s02, s10, s11, s12, s20, s21, s22]
    rw [st.2.2.1]
    rfl
  isplitl [H15]
  · iapply owns_of c arg16 _ ?_ $$ H15
    refine (View.read_writes_full arg16.view _ inb_S2048x6_S2048x6_0_0 _ []).trans ?_
    sl_unfold_run_names
    simp only [q1, q2, q3, q4, q5, q6, q7, q8, q9, q10, q11, q12, q13, q17, q18, q20, q21, q22]
    rw [st.2.1, st.2.2.2]
    rfl
  isplitl [HS0]
  · iapply owns_of c arg17 _ ?_ $$ HS0
    refine (View.read_writes_full arg17.view _ inb_S1x32_S1x32_0_0 _ _).trans ?_
    sl_unfold_run_names
    simp only [q1, q2, q3, q4, q5, q6, q7, q8, q9, q10, q11, q12, q13, q17, q18, q20, q21, q22]
    exact congrArg k0_pay47 st.1
  isplitl [HS1]
  · iapply owns_of c arg18 _ ?_ $$ HS1
    delta body_first.sl.HS1_2
    refine (View.read_writes_full arg18.view _ inb_S1x1_S1x1_0_0 _ _).trans ?_
    sl_unfold_run_names
    simp only [q1, q2, q3, q4, q5, q6, q7, q8, q9, q10, q11, q12, q13, q17, q18, q20, q21, q22, s00, s01, s02, s10, s11, s12, s20, s21, s22]
    rw [st.2.2.1]
    rfl
  isplitl [HS2]; · iapply owns_ex_of c arg19 _ $$ HS2
  isplitl [HS3]; · iapply owns_ex_of c arg20 _ $$ HS3
  isplitl [HS4]; · iapply owns_ex_of c arg21 _ $$ HS4
  iapply owns_ex_of c arg22 _ $$ HS5

end Cert.KernelIdeal.Hand

end
-- ==== Proof.IdealFrame.lean ====
/-
  The launch: the carried row and loss point by point, the body's obligation, and the frame.
-/
module

public import proofs.«01_k».proof.Proof.IdealBody
public import proofs.«01_k».proof.Proof.Gen.KernelIdeal.Frame
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's staging buffer at a point, and that it is whole. -/
abbrev stg0 (t : Fin cfg0.N) : Memref sig .tc .vmem S2048x3 .f32 := win0_0.stage (cfg0.slots t 0)
abbrev whl0 (t : Fin cfg0.N) : (stg0 t).IsWhole := hstage0_0 ((cfg0.slots t 0).cast nbuf0_0)
/-- Window 1's staging buffer at a point, and that it is whole. -/
abbrev stg1 (t : Fin cfg0.N) : Memref sig .tc .vmem S3x32 .f32 := win0_1.stage (cfg0.slots t 1)
abbrev whl1 (t : Fin cfg0.N) : (stg1 t).IsWhole := hstage0_1 ((cfg0.slots t 1).cast nbuf0_1)
/-- Window 2's staging buffer at a point, and that it is whole. -/
abbrev stg2 (t : Fin cfg0.N) : Memref sig .tc .vmem S1x32 .f32 := win0_2.stage (cfg0.slots t 2)
abbrev whl2 (t : Fin cfg0.N) : (stg2 t).IsWhole := hstage0_2 ((cfg0.slots t 2).cast nbuf0_2)
/-- Window 3's staging buffer at a point, and that it is whole. -/
abbrev stg3 (t : Fin cfg0.N) : Memref sig .tc .vmem S32x6 .f32 := win0_3.stage (cfg0.slots t 3)
abbrev whl3 (t : Fin cfg0.N) : (stg3 t).IsWhole := hstage0_3 ((cfg0.slots t 3).cast nbuf0_3)
/-- Window 4's staging buffer at a point, and that it is whole. -/
abbrev stg4 (t : Fin cfg0.N) : Memref sig .tc .vmem S1x6 .f32 := win0_4.stage (cfg0.slots t 4)
abbrev whl4 (t : Fin cfg0.N) : (stg4 t).IsWhole := hstage0_4 ((cfg0.slots t 4).cast nbuf0_4)
/-- Window 5's staging buffer at a point, and that it is whole. -/
abbrev stg5 (t : Fin cfg0.N) : Memref sig .tc .vmem S6x32 .f32 := win0_5.stage (cfg0.slots t 5)
abbrev whl5 (t : Fin cfg0.N) : (stg5 t).IsWhole := hstage0_5 ((cfg0.slots t 5).cast nbuf0_5)
/-- Window 6's staging buffer at a point, and that it is whole. -/
abbrev stg6 (t : Fin cfg0.N) : Memref sig .tc .vmem S1x32 .f32 := win0_6.stage (cfg0.slots t 6)
abbrev whl6 (t : Fin cfg0.N) : (stg6 t).IsWhole := hstage0_6 ((cfg0.slots t 6).cast nbuf0_6)
/-- Window 7's staging buffer at a point, and that it is whole. -/
abbrev stg7 (t : Fin cfg0.N) : Memref sig .tc .vmem S32x6 .f32 := win0_7.stage (cfg0.slots t 7)
abbrev whl7 (t : Fin cfg0.N) : (stg7 t).IsWhole := hstage0_7 ((cfg0.slots t 7).cast nbuf0_7)
/-- Window 8's staging buffer at a point, and that it is whole. -/
abbrev stg8 (t : Fin cfg0.N) : Memref sig .tc .vmem S1x6 .f32 := win0_8.stage (cfg0.slots t 8)
abbrev whl8 (t : Fin cfg0.N) : (stg8 t).IsWhole := hstage0_8 ((cfg0.slots t 8).cast nbuf0_8)
/-- Window 9's staging buffer at a point, and that it is whole. -/
abbrev stg9 (t : Fin cfg0.N) : Memref sig .tc .vmem S6x32 .f32 := win0_9.stage (cfg0.slots t 9)
abbrev whl9 (t : Fin cfg0.N) : (stg9 t).IsWhole := hstage0_9 ((cfg0.slots t 9).cast nbuf0_9)
/-- Window 10's staging buffer at a point, and that it is whole. -/
abbrev stg10 (t : Fin cfg0.N) : Memref sig .tc .vmem S1x32 .f32 := win0_10.stage (cfg0.slots t 10)
abbrev whl10 (t : Fin cfg0.N) : (stg10 t).IsWhole := hstage0_10 ((cfg0.slots t 10).cast nbuf0_10)
/-- Window 11's staging buffer at a point, and that it is whole. -/
abbrev stg11 (t : Fin cfg0.N) : Memref sig .tc .vmem S32x3 .f32 := win0_11.stage (cfg0.slots t 11)
abbrev whl11 (t : Fin cfg0.N) : (stg11 t).IsWhole := hstage0_11 ((cfg0.slots t 11).cast nbuf0_11)
/-- Window 12's staging buffer at a point, and that it is whole. -/
abbrev stg12 (t : Fin cfg0.N) : Memref sig .tc .vmem S1x3 .f32 := win0_12.stage (cfg0.slots t 12)
abbrev whl12 (t : Fin cfg0.N) : (stg12 t).IsWhole := hstage0_12 ((cfg0.slots t 12).cast nbuf0_12)
/-- Window 13's staging buffer at a point, and that it is whole. -/
abbrev stg13 (t : Fin cfg0.N) : Memref sig .tc .smem S3x3 .f32 := win0_13.stage (cfg0.slots t 13)
abbrev whl13 (t : Fin cfg0.N) : (stg13 t).IsWhole := hstage0_13 ((cfg0.slots t 13).cast nbuf0_13)
/-- Window 14's staging buffer at a point, and that it is whole. -/
abbrev stg14 (t : Fin cfg0.N) : Memref sig .tc .vmem S1x1 .f32 := win0_14.stage (cfg0.slots t 14)
abbrev whl14 (t : Fin cfg0.N) : (stg14 t).IsWhole := hstage0_14 ((cfg0.slots t 14).cast nbuf0_14)
/-- Window 15's staging buffer at a point, and that it is whole. -/
abbrev stg15 (t : Fin cfg0.N) : Memref sig .tc .vmem S2048x6 .f32 := win0_15.stage (cfg0.slots t 15)
abbrev whl15 (t : Fin cfg0.N) : (stg15 t).IsWhole := hstage0_15 ((cfg0.slots t 15).cast nbuf0_15)

/-- The six scratch buffers, whole. -/
abbrev scr0 : Memref sig .tc .vmem S1x32 .f32 := Memref.whole cc0_scratch0
abbrev scr1 : Memref sig .tc .vmem S1x1 .f32 := Memref.whole cc0_scratch1
abbrev scr2 : Memref sig .tc .vmem S2048x32 .f32 := Memref.whole cc0_scratch2
abbrev scr3 : Memref sig .tc .vmem S2048x32 .f32 := Memref.whole cc0_scratch3
abbrev scr4 : Memref sig .tc .vmem S2048x32 .f32 := Memref.whole cc0_scratch4
abbrev scr5 : Memref sig .tc .vmem S2048x32 .f32 := Memref.whole cc0_scratch5

/-- The loss and carry are set at the first point only. -/
theorem cond0_iff (t : Fin cfg0.N) : cond0 (grid0.coords t) ↔ t.val = 0 := by
  have ht : t.val < 256 := Nat.lt_of_lt_of_eq t.isLt N_0
  have e0 : (grid0.coords t 0).val = t.val / 1 % 256 := Pipeline.Grid.coords_val t 0 (by decide) rfl
  simp only [cond0, e0]
  word_cmp

/-- What the launch hands the body besides the windows: the scratch buffers at anything, and the generator. -/
theorem rest_eq (c : Dev nD) :
    (Pipeline.ΦA spec0 c : sProp 𝕄) = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

/-- The measurements' block at a point. -/
abbrev yBlk (c : Dev nD) (t : Fin cfg0.N) : Vec F S2048x3 .f32 := iblk m c 0 t

/-- The weights and biases as the windows hold them at a point. -/
abbrev prm (c : Dev nD) (t : Fin cfg0.N) : Prm F := ⟨iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- The carried row and the accumulated loss before point `n`. -/
def carried (c : Dev nD) : (n : ℕ) → n ≤ cfg0.N → FVec F S1x32 .f32 × FVec F S1x1 .f32
  | 0, _ => (k0_pay34 (prm m c ⟨0, by rw [show cfg0.N = 256 from N_0]; decide⟩).bt1, k0_pay35)
  | n + 1, hn => ((prm m c ⟨n, hn⟩).carry (yBlk m c ⟨n, hn⟩) (carried c n (Nat.le_of_lt hn)).1,
      (prm m c ⟨n, hn⟩).acc (yBlk m c ⟨n, hn⟩) (carried c n (Nat.le_of_lt hn)).1 (carried c n (Nat.le_of_lt hn)).2)

/-- The row and the loss handed to point `t`. -/
abbrev rowIn (c : Dev nD) (t : Fin cfg0.N) : FVec F S1x32 .f32 := (carried m c t.val (Nat.le_of_lt t.isLt)).1
abbrev lossIn (c : Dev nD) (t : Fin cfg0.N) : FVec F S1x1 .f32 := (carried m c t.val (Nat.le_of_lt t.isLt)).2

/-- At the first point they are the initial row and zero. -/
theorem carried_first (c : Dev nD) (t : Fin cfg0.N) (h : t.val = 0) : rowIn m c t = k0_pay34 (prm m c t).bt1 ∧ lossIn m c t = k0_pay35 := by
  obtain ⟨n, hn⟩ := t
  obtain rfl : n = 0 := h
  exact ⟨rfl, rfl⟩

/-- What holds between points: before the first, whatever the launch hands over; later, the carried row and loss in their buffers. -/
def between (c : Dev nD) : (n : ℕ) → n ≤ cfg0.N → sProp 𝕄
  | 0, _ => Pipeline.ΦA spec0 c
  | n + 1, hn => iprop(iprop(owns (c : Thread nD τ) scr0 fullShare (carried m c (n + 1) hn).1 ∗ owns (c : Thread nD τ) scr1 fullShare (carried m c (n + 1) hn).2 ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r))

/-- What holds before the first point. -/
theorem between_zero (c : Dev nD) (n : ℕ) (h : n ≤ cfg0.N) (hz : n = 0) : between m c n h = Pipeline.ΦA spec0 c := by
  subst hz; rfl

/-- What holds before a later one. -/
theorem between_pos (c : Dev nD) (n : ℕ) (h : n ≤ cfg0.N) (hz : n ≠ 0) :
    between m c n h = iprop(iprop(owns (c : Thread nD τ) scr0 fullShare (carried m c n h).1 ∗ owns (c : Thread nD τ) scr1 fullShare (carried m c n h).2 ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  cases n with
  | zero => exact absurd rfl hz
  | succ n => rfl

/-- The pipeline's data: inputs at their blocks; after point `t` the loss window holds the scaled loss so far, the latents' window the block's latents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => k0_pay2 ((prm m c t).acc (yBlk m c t) (rowIn m c t) (lossIn m c t))
    | ⟨15, _⟩ => (prm m c t).lat (yBlk m c t) (rowIn m c t)
    | ⟨_ + 16, h⟩ => absurd h (Nat.not_lt.2 (Nat.le_add_left _ _))
  Φ t := between m c t.val (Nat.le_of_lt_succ t.isLt)
  q _ := fullShare
  owed _ := 0

/-- A window's array before the run is the memory's. -/
theorem A_eq (c : Dev nD) (w : Fin cfg0.W) : (dats m 0 c).A w = V m c (Pipeline.arrRef spec0 w) := by
  dsimp only [dats]

/-- What a point starts from. -/
theorem Phi_castSucc (c : Dev nD) (t : Fin cfg0.N) : (dats m 0 c).Φ t.castSucc = between m c t.val (Nat.le_of_lt t.isLt) := by
  dsimp only [dats]; exact Pipeline.Dat.Φ_castSucc (between m c) t

/-- What each window holds after a point. -/
theorem aft0 (c : Dev nD) (t : Fin cfg0.N) : (dats m 0 c).after 0 t = iblk m c 0 t := by dsimp only [dats]
theorem aft1 (c : Dev nD) (t : Fin cfg0.N) : (dats m 0 c).after 1 t = iblk m c 1 t := by dsimp only [dats]
theorem aft2 (c : Dev nD) (t : Fin cfg0.N) : (dats m 0 c).after 2 t = iblk m c 2 t := by dsimp only [dats]
theorem aft3 (c : Dev nD) (t : Fin cfg0.N) : (dats m 0 c).after 3 t = iblk m c 3 t := by dsimp only [dats]
theorem aft4 (c : Dev nD) (t : Fin cfg0.N) : (dats m 0 c).after 4 t = iblk m c 4 t := by dsimp only [dats]
theorem aft5 (c : Dev nD) (t : Fin cfg0.N) : (dats m 0 c).after 5 t = iblk m c 5 t := by dsimp only [dats]
theorem aft6 (c : Dev nD) (t : Fin cfg0.N) : (dats m 0 c).after 6 t = iblk m c 6 t := by dsimp only [dats]
theorem aft7 (c : Dev nD) (t : Fin cfg0.N) : (dats m 0 c).after 7 t = iblk m c 7 t := by dsimp only [dats]
theorem aft8 (c : Dev nD) (t : Fin cfg0.N) : (dats m 0 c).after 8 t = iblk m c 8 t := by dsimp only [dats]
theorem aft9 (c : Dev nD) (t : Fin cfg0.N) : (dats m 0 c).after 9 t = iblk m c 9 t := by dsimp only [dats]
theorem aft10 (c : Dev nD) (t : Fin cfg0.N) : (dats m 0 c).after 10 t = iblk m c 10 t := by dsimp only [dats]
theorem aft11 (c : Dev nD) (t : Fin cfg0.N) : (dats m 0 c).after 11 t = iblk m c 11 t := by dsimp only [dats]
theorem aft12 (c : Dev nD) (t : Fin cfg0.N) : (dats m 0 c).after 12 t = iblk m c 12 t := by dsimp only [dats]
theorem aft13 (c : Dev nD) (t : Fin cfg0.N) : (dats m 0 c).after 13 t = iblk m c 13 t := by dsimp only [dats]
theorem aft14 (c : Dev nD) (t : Fin cfg0.N) : (dats m 0 c).after 14 t = k0_pay2 ((prm m c t).acc (yBlk m c t) (rowIn m c t) (lossIn m c t)) := by dsimp only [dats]
theorem aft15 (c : Dev nD) (t : Fin cfg0.N) : (dats m 0 c).after 15 t = (prm m c t).lat (yBlk m c t) (rowIn m c t) := by dsimp only [dats]

/-- What each input window holds before a point. -/
theorem bef0 (c : Dev nD) (t : Fin cfg0.N) (d) : (dats m 0 c).before 0 t d = iblk m c 0 t := before0_0_of m (dats m 0 c) (A_eq m c 0) (aft0 m c) t d
theorem bef1 (c : Dev nD) (t : Fin cfg0.N) (d) : (dats m 0 c).before 1 t d = iblk m c 1 t := before0_1_of m (dats m 0 c) (A_eq m c 1) (aft1 m c) t d
theorem bef2 (c : Dev nD) (t : Fin cfg0.N) (d) : (dats m 0 c).before 2 t d = iblk m c 2 t := before0_2_of m (dats m 0 c) (A_eq m c 2) (aft2 m c) t d
theorem bef3 (c : Dev nD) (t : Fin cfg0.N) (d) : (dats m 0 c).before 3 t d = iblk m c 3 t := before0_3_of m (dats m 0 c) (A_eq m c 3) (aft3 m c) t d
theorem bef4 (c : Dev nD) (t : Fin cfg0.N) (d) : (dats m 0 c).before 4 t d = iblk m c 4 t := before0_4_of m (dats m 0 c) (A_eq m c 4) (aft4 m c) t d
theorem bef5 (c : Dev nD) (t : Fin cfg0.N) (d) : (dats m 0 c).before 5 t d = iblk m c 5 t := before0_5_of m (dats m 0 c) (A_eq m c 5) (aft5 m c) t d
theorem bef6 (c : Dev nD) (t : Fin cfg0.N) (d) : (dats m 0 c).before 6 t d = iblk m c 6 t := before0_6_of m (dats m 0 c) (A_eq m c 6) (aft6 m c) t d
theorem bef7 (c : Dev nD) (t : Fin cfg0.N) (d) : (dats m 0 c).before 7 t d = iblk m c 7 t := before0_7_of m (dats m 0 c) (A_eq m c 7) (aft7 m c) t d
theorem bef8 (c : Dev nD) (t : Fin cfg0.N) (d) : (dats m 0 c).before 8 t d = iblk m c 8 t := before0_8_of m (dats m 0 c) (A_eq m c 8) (aft8 m c) t d
theorem bef9 (c : Dev nD) (t : Fin cfg0.N) (d) : (dats m 0 c).before 9 t d = iblk m c 9 t := before0_9_of m (dats m 0 c) (A_eq m c 9) (aft9 m c) t d
theorem bef10 (c : Dev nD) (t : Fin cfg0.N) (d) : (dats m 0 c).before 10 t d = iblk m c 10 t := before0_10_of m (dats m 0 c) (A_eq m c 10) (aft10 m c) t d
theorem bef11 (c : Dev nD) (t : Fin cfg0.N) (d) : (dats m 0 c).before 11 t d = iblk m c 11 t := before0_11_of m (dats m 0 c) (A_eq m c 11) (aft11 m c) t d
theorem bef12 (c : Dev nD) (t : Fin cfg0.N) (d) : (dats m 0 c).before 12 t d = iblk m c 12 t := before0_12_of m (dats m 0 c) (A_eq m c 12) (aft12 m c) t d
theorem bef13 (c : Dev nD) (t : Fin cfg0.N) (d) : (dats m 0 c).before 13 t d = iblk m c 13 t := before0_13_of m (dats m 0 c) (A_eq m c 13) (aft13 m c) t d

/-- What the body is called with at a point, window by window, and what it must return. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d))
    ∗ (∃ d, owns (c : Thread nD τ) (stg13 t) fullShare ((dats m 0 c).before 13 t d))
    ∗ (∃ d, owns (c : Thread nD τ) (stg14 t) fullShare ((dats m 0 c).before 14 t d))
    ∗ (∃ d, owns (c : Thread nD τ) (stg15 t) fullShare ((dats m 0 c).before 15 t d)))

def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t)
    ∗ owns (c : Thread nD τ) (stg12 t) fullShare ((dats m 0 c).after 12 t)
    ∗ owns (c : Thread nD τ) (stg13 t) fullShare ((dats m 0 c).after 13 t)
    ∗ owns (c : Thread nD τ) (stg14 t) fullShare ((dats m 0 c).after 14 t)
    ∗ owns (c : Thread nD τ) (stg15 t) fullShare ((dats m 0 c).after 15 t))

set_option maxHeartbeats 16000000 in
/-- The body at any point, from what the windows and the scratch hold to what they must hold next. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [bef0, bef1, bef2, bef3, bef4, bef5, bef6, bef7, bef8, bef9, bef10, bef11, bef12, bef13]
  rw [show (dats m 0 c).owesAt () t.succ = (dats m 0 c).owesAt () t.castSucc from rfl, aft0, aft1, aft2, aft3, aft4, aft5, aft6, aft7, aft8, aft9, aft10, aft11, aft12, aft13, aft14, aft15]
  rw [show (dats m 0 c).Φ t.succ = between m c (t.val + 1) t.isLt from rfl, between_pos m c (t.val + 1) _ (Nat.succ_ne_zero _), Phi_castSucc m c t]
  rw [show (carried m c (t.val + 1) t.isLt).1 = (prm m c t).carry (yBlk m c t) (rowIn m c t) from rfl,
    show (carried m c (t.val + 1) t.isLt).2 = (prm m c t).acc (yBlk m c t) (rowIn m c t) (lossIn m c t) from rfl]
  by_cases hz : t.val = 0
  · rw [between_zero m c _ _ hz, rest_eq, (carried_first m c t hz).1, (carried_first m c t hz).2]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (body_first c (grid0.coords t) (stg0 t) (whl0 t) (stg1 t) (whl1 t) (stg2 t) (whl2 t) (stg3 t) (whl3 t) (stg4 t) (whl4 t) (stg5 t) (whl5 t) (stg6 t) (whl6 t) (stg7 t) (whl7 t) (stg8 t) (whl8 t) (stg9 t) (whl9 t) (stg10 t) (whl10 t) (stg11 t) (whl11 t) (stg12 t) (whl12 t) (stg13 t) (whl13 t) (stg14 t) (whl14 t) (stg15 t) (whl15 t) scr0 (Memref.isWhole_whole _) scr1 (Memref.isWhole_whole _) scr2 (Memref.isWhole_whole _) scr3 (Memref.isWhole_whole _) scr4 (Memref.isWhole_whole _) scr5 (Memref.isWhole_whole _) ((cond0_iff t).mpr hz) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, H13, H14, H15, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · rw [between_pos m c _ _ hz]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply (body_rest c (grid0.coords t) (stg0 t) (whl0 t) (stg1 t) (whl1 t) (stg2 t) (whl2 t) (stg3 t) (whl3 t) (stg4 t) (whl4 t) (stg5 t) (whl5 t) (stg6 t) (whl6 t) (stg7 t) (whl7 t) (stg8 t) (whl8 t) (stg9 t) (whl9 t) (stg10 t) (whl10 t) (stg11 t) (whl11 t) (stg12 t) (whl12 t) (stg13 t) (whl13 t) (stg14 t) (whl14 t) (stg15 t) (whl15 t) scr0 (Memref.isWhole_whole _) scr1 (Memref.isWhole_whole _) scr2 (Memref.isWhole_whole _) scr3 (Memref.isWhole_whole _) scr4 (Memref.isWhole_whole _) scr5 (Memref.isWhole_whole _) (fun h => hz ((cond0_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (rowIn m c t) (lossIn m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, H13, H14, H15, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The body table's row at a point is the body as called. -/
theorem row_eq (t : Fin cfg0.N) : defs₀ (F := F) .tc cfg0.body (cfg0.bodyArgs t (cfg0.slots t)) = bodyAt0 t := by
  unfold defs₀; rw [Defs.onTc_tc]

/-- The library's obligation on the body. -/
theorem obliged (c : Dev nD) : BodyObligation (dats (F := F) m 0 c) (defs₀ (F := F)) Variants.none () Set.univ := fun t => by
  rw [bigSep_W0, bigSep_W0, row_eq]
  exact triple_restated (sound_body m c t) rfl .rfl fun _ => .rfl

/-- What the launch hands over holds before the first point, -/
theorem enter (c : Dev nD) : Pipeline.ΦA spec0 c ⊢ (dats m 0 c).Φ 0 := by
  rw [show (dats m 0 c).Φ 0 = between m c 0 (Nat.zero_le _) from rfl, between_zero m c 0 _ rfl]
  try exact Idealize.SL.BI.Entails.refl _

/-- and after the last it is given back. -/
theorem leave (c : Dev nD) : (dats m 0 c).Φ (Fin.last cfg0.N) ⊢ Pipeline.ΦA spec0 c := by
  rw [show (dats m 0 c).Φ (Fin.last cfg0.N) = between m c cfg0.N le_rfl from rfl, between_pos m c _ _ (by rw [show cfg0.N = 256 from N_0]; decide), rest_eq]
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexact HS2
    isplitl [HS3]; · iexact HS3
    isplitl [HS4]; · iexact HS4
    iexact HS5
  iexact Hg

set_option backward.isDefEq.respectTransparency.types false in
/-- The kernel's run ends, its arrays at what the data says, its counters at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obliged m c).loose) (hshare := fun c => (dats m 0 c).share_full fun _ => rfl)
    (howed := fun _ _ => rfl) (V := V m) (hmain := hmain m Variants.none) (hA := A_eq m) (hin := enter m) (hout := leave m)

/-- The kernel's frame: it ends, its arguments unchanged, its counters at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (frame_of m ρ (dats m) (A_eq m) ((θ_run defs _ _).mono (fun _ h => h.1) (run_quiet m ρ))) ((θ_run defs _ _).mono (fun _ h => h.2) (run_quiet m ρ))

end Cert.KernelIdeal.Hand

end
-- ==== Proof.BitsFrame.lean ====
/-
  The kernel over floats. No operation was replaced for the reading over the extended reals, so the program read there and
  this one are the same text, and the run proved for the one at any floats is a run of the other.
-/
module

public import proofs.«01_k».proof.Defs
public import proofs.«01_k».proof.Proof.Gen.Kernel
public import proofs.«01_k».proof.Proof.IdealFrame

@[expose] public section

set_option maxRecDepth 16384

noncomputable section

namespace Cert.Kernel.Hand

open Idealize.ShloMosaic Idealize.SL.Sem

set_option maxHeartbeats 8000000 in
/-- The two programs' host parts are one. -/
theorem main_eq : Cert.Kernel.main (F := Bits) = Cert.KernelIdeal.main (F := Bits) := (rfl)

set_option maxHeartbeats 2000000 in
/-- The two programs' kernel bodies are one. -/
theorem body_eq (i0) : @Cert.Kernel.cc0__nssm_kernel Bits _ _ i0 = @Cert.KernelIdeal.cc0__nssm_kernel Bits _ _ i0 := by
  unfold Cert.Kernel.cc0__nssm_kernel Cert.KernelIdeal.cc0__nssm_kernel
  rfl

set_option maxHeartbeats 2000000 in
/-- So are the tables of bodies. -/
theorem defs0_eq : Cert.Kernel.defs₀ (F := Bits) = Cert.KernelIdeal.defs₀ (F := Bits) := by
  unfold Cert.Kernel.defs₀ Cert.KernelIdeal.defs₀
  refine congrArg (Defs.onTc (Λ := Cert.KernelIdeal.Λ₀)) (funext fun l => funext fun a => ?_)
  match l, a with
  | 0, (t, s) =>
    dsimp only
    rw [body_eq]
    rfl

set_option maxHeartbeats 2000000 in
/-- So are the tables with the pipeline's own labels. -/
theorem defs_eq : Cert.Kernel.defs (F := Bits) = Cert.KernelIdeal.defs (F := Bits) := by
  unfold Cert.Kernel.defs Cert.KernelIdeal.defs
  rw [defs0_eq]
  rfl

open Cert.Kernel in
/-- The kernel's frame over floats: it ends, its arguments unchanged, its counters at zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) := by
  rw [defs_eq, main_eq]
  exact Cert.KernelIdeal.Hand.frame (F := Bits) m ρ

end Cert.Kernel.Hand

end
-- ==== Proof.RefFrame.lean ====
/-
  The reference's frame: it ends, its arguments unchanged; it declares no semaphore, so every counter is zero.
-/
module

public import proofs.«01_k».proof.Proof.Gen.ReferenceIdeal.Run
public import Idealize.ShloMosaic.Lib.Quiescent

@[expose] public section

noncomputable section

namespace Cert.ReferenceIdeal.Hand

open Cert.ReferenceIdeal.Gen Cert.ReferenceIdeal.Value
open Idealize.ShloMosaic Idealize.ShloMosaic.TcCoe Idealize.SL.Sem

variable {F : FTy → Type} [FloatOps F]
variable (m : (ℓ : Loc nD τ sig) → Buf (Elt F) ℓ) (ρ : Dev nD → PrngReg)

/-- The reference ends with its arguments unchanged and its counters at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c => (h c).2.2, sem_eq_zero_of_no_sems (by decide) r.2⟩) (run m ρ)

end Cert.ReferenceIdeal.Hand

end
-- ==== Proof.Model.lean ====
/-
  The model over the real numbers, written twice: as the reference steps it (the state of six numbers, three
  perceptrons a step) and as the kernel steps it (the hidden row of the transition's perceptron, with the products of
  neighbouring weights taken once). The two agree step by step, and so does the loss's sum.
-/
module

public import Mathlib.Data.Matrix.Mul
public import Mathlib.Data.Real.Basic
public import Mathlib.Algebra.BigOperators.Fin
public import Mathlib.Tactic.Abel

@[expose] public section

noncomputable section

namespace Cert.Model

open Matrix

/-- The weights and the biases of the three perceptrons. -/
structure Net where
  We1 : Matrix (Fin 3) (Fin 32) ℝ
  be1 : Fin 32 → ℝ
  We2 : Matrix (Fin 32) (Fin 6) ℝ
  be2 : Fin 6 → ℝ
  Wt1 : Matrix (Fin 6) (Fin 32) ℝ
  bt1 : Fin 32 → ℝ
  Wt2 : Matrix (Fin 32) (Fin 6) ℝ
  bt2 : Fin 6 → ℝ
  Wd1 : Matrix (Fin 6) (Fin 32) ℝ
  bd1 : Fin 32 → ℝ
  Wd2 : Matrix (Fin 32) (Fin 3) ℝ
  bd2 : Fin 3 → ℝ

/-- The larger of each entry and zero. -/
def relu {n : ℕ} (v : Fin n → ℝ) : Fin n → ℝ := fun i => max (v i) 0

variable (N : Net)

/-! ## As the reference steps it -/

/-- The transition's hidden layer at state `x`. -/
def hT (x : Fin 6 → ℝ) : Fin 32 → ℝ := relu (x ᵥ* N.Wt1 + N.bt1)

/-- The predicted state. -/
def xp (x : Fin 6 → ℝ) : Fin 6 → ℝ := hT N x ᵥ* N.Wt2 + N.bt2

/-- The decoder's hidden layer at the predicted state. -/
def hD (x : Fin 6 → ℝ) : Fin 32 → ℝ := relu (xp N x ᵥ* N.Wd1 + N.bd1)

/-- The innovation of the observation `y`. -/
def inn (y : Fin 3 → ℝ) (x : Fin 6 → ℝ) : Fin 3 → ℝ := y - (hD N x ᵥ* N.Wd2 + N.bd2)

/-- The encoder's hidden layer at the innovation. -/
def hE (y : Fin 3 → ℝ) (x : Fin 6 → ℝ) : Fin 32 → ℝ := relu (inn N y x ᵥ* N.We1 + N.be1)

/-- The next state. -/
def xn (y : Fin 3 → ℝ) (x : Fin 6 → ℝ) : Fin 6 → ℝ := xp N x + (hE N y x ᵥ* N.We2 + N.be2)

/-- The state before observation `t`. -/
def st (y : ℕ → Fin 3 → ℝ) : ℕ → Fin 6 → ℝ
  | 0 => 0
  | t + 1 => xn N (y t) (st y t)

/-- What observation `t` adds to the loss, with `S` for the inverse of the covariance. -/
def term (S : Matrix (Fin 3) (Fin 3) ℝ) (y : ℕ → Fin 3 → ℝ) (t : ℕ) : ℝ :=
  ∑ j, (inn N (y t) (st N y t) ᵥ* S) j * inn N (y t) (st N y t) j

/-- The loss before observation `t`. -/
def ls (S : Matrix (Fin 3) (Fin 3) ℝ) (y : ℕ → Fin 3 → ℝ) : ℕ → ℝ
  | 0 => 0
  | t + 1 => ls S y t + term N S y t

/-- The loss after `n` more observations is the loss before and the sum of what they add. -/
theorem ls_add (S : Matrix (Fin 3) (Fin 3) ℝ) (y : ℕ → Fin 3 → ℝ) (t n : ℕ) :
    ls N S y (t + n) = ls N S y t + ∑ r : Fin n, term N S y (t + r.val) := by
  induction n with
  | zero => simp
  | succ n ih =>
    rw [← Nat.add_assoc, Fin.sum_univ_castSucc, ← add_assoc, ls, ih]
    rfl

/-! ## As the kernel steps it -/

/-- The decoder's hidden layer from the transition's hidden layer. -/
def kD (g : Fin 32 → ℝ) : Fin 32 → ℝ := relu (g ᵥ* (N.Wt2 * N.Wd1) + (N.bt2 ᵥ* N.Wd1 + N.bd1))

/-- The observation as the encoder's hidden layer takes it. -/
def kY (y : Fin 3 → ℝ) : Fin 32 → ℝ := y ᵥ* N.We1 + (N.be1 - N.bd2 ᵥ* N.We1)

/-- The encoder's hidden layer from the transition's hidden layer. -/
def kE (y : Fin 3 → ℝ) (g : Fin 32 → ℝ) : Fin 32 → ℝ := relu (kY N y - kD N g ᵥ* (N.Wd2 * N.We1))

/-- The transition's next hidden layer. -/
def kN (y : Fin 3 → ℝ) (g : Fin 32 → ℝ) : Fin 32 → ℝ :=
  relu (g ᵥ* (N.Wt2 * N.Wt1) + kE N y g ᵥ* (N.We2 * N.Wt1) + ((N.bt2 + N.be2) ᵥ* N.Wt1 + N.bt1))

variable {N} {x : Fin 6 → ℝ} {g : Fin 32 → ℝ}

/-- From the state's own hidden layer, the kernel's decoder layer is the reference's. -/
theorem kD_eq (h : g = hT N x) : kD N g = hD N x := by
  subst h
  unfold kD hD xp
  rw [add_vecMul, ← vecMul_vecMul, add_assoc]

/-- From the state's own hidden layer, the kernel's encoder layer is the reference's. -/
theorem kE_eq (y : Fin 3 → ℝ) (h : g = hT N x) : kE N y g = hE N y x := by
  unfold kE hE inn kY
  rw [kD_eq h, sub_vecMul, add_vecMul, ← vecMul_vecMul]
  congr 1
  abel

/-- The kernel's latent row is the reference's next state. -/
theorem lat_eq (y : Fin 3 → ℝ) (h : g = hT N x) :
    g ᵥ* N.Wt2 + kE N y g ᵥ* N.We2 + (N.bt2 + N.be2) = xn N y x := by
  rw [kE_eq y h]
  subst h
  unfold xn xp
  abel

/-- From the state's own hidden layer, the kernel's next hidden layer is the next state's. -/
theorem kN_eq (y : Fin 3 → ℝ) (h : g = hT N x) : kN N y g = hT N (xn N y x) := by
  unfold kN hT
  rw [← lat_eq y h]
  simp only [add_vecMul, ← vecMul_vecMul]
  congr 1
  abel

/-- The first state's hidden layer: the bias's positive part. -/
theorem hT_zero (y : ℕ → Fin 3 → ℝ) : hT N (st N y 0) = relu N.bt1 := by
  unfold hT st
  rw [zero_vecMul, zero_add]

end Cert.Model

end
-- ==== Proof.Lift.lean ====
/-
  Real numbers as the extended reals' arrays: `upM` of a matrix, `upV` of a vector; sums of products, greatest of two
  and quotients of such elements are again such elements.
-/
module

public import Idealize.ShloMosaic.Lib.Pointwise
public import proofs.«01_k».proof.Proof.Model

@[expose] public section

noncomputable section

namespace Cert.Lift

open Idealize.ShloMosaic

/-- A real matrix as an array of the extended reals. -/
def upM {a b : ℕ} (M : Fin a → Fin b → ℝ) : FVec Ideal ⟨2, ![a, b]⟩ .f32 :=
  fun i => ((M (i 0) (i 1) : ℝ) : EReal)

/-- A real vector as an array of the extended reals. -/
def upV {a : ℕ} (v : Fin a → ℝ) : FVec Ideal ⟨1, ![a]⟩ .f32 := fun i => ((v (i 0) : ℝ) : EReal)

/-- A real number as an array without axes. -/
def upS (x : ℝ) : FVec Ideal ⟨0, ![]⟩ .f32 := fun _ => ((x : ℝ) : EReal)

/-- An entry of a real matrix as an array. -/
theorem upM_ix2 {a b : ℕ} (M : Fin a → Fin b → ℝ) (i : Fin a) (j : Fin b) : upM M (ix2 i j) = ((M i j : ℝ) : EReal) := rfl
/-- An entry of a real vector as an array. -/
theorem upV_ix1 {a : ℕ} (v : Fin a → ℝ) (i : Fin a) : upV v (ix1 i) = ((v i : ℝ) : EReal) := rfl

/-- The sum of the extended reals of real numbers is the extended real of their sum. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The same of a sum of products. -/
theorem coe_dot {n : ℕ} (f g : Fin n → ℝ) :
    ∑ k, ((f k : ℝ) : EReal) * ((g k : ℝ) : EReal) = ((∑ k, f k * g k : ℝ) : EReal) := by
  rw [← coe_sum]
  exact Finset.sum_congr rfl fun k _ => (EReal.coe_mul _ _).symm

/-- The larger of a real number and zero. -/
theorem coe_relu (x : ℝ) : max ((x : ℝ) : EReal) 0 = ((max x 0 : ℝ) : EReal) := by
  rw [← EReal.coe_zero]
  exact (EReal.coe_strictMono.monotone.map_max).symm

/-- A quotient by a real number that is not zero. -/
theorem coe_div (x y : ℝ) (h : y ≠ 0) : Ideal.div ((x : ℝ) : EReal) ((y : ℝ) : EReal) = ((x / y : ℝ) : EReal) := by
  unfold Ideal.div
  rw [if_neg (by rw [← EReal.coe_zero]; exact fun e => h (EReal.coe_injective e)), div_eq_mul_inv, EReal.coe_mul, EReal.coe_inv]

/-- The absolute value of a real number. -/
theorem coe_abs (x : ℝ) : max ((x : ℝ) : EReal) (-((x : ℝ) : EReal)) = ((|x| : ℝ) : EReal) := by
  rw [← EReal.coe_neg, ← EReal.coe_strictMono.monotone.map_max]
  rfl

/-- An element whose absolute value is below the infinite one is a real number. -/
theorem real_of_abs_lt {x : EReal} (h : max x (-x) < ⊤) : x = ((x.toReal : ℝ) : EReal) := by
  refine (EReal.coe_toReal (fun e => ?_) (fun e => ?_)).symm <;> subst e <;> simp at h

/-- The number added to the covariance's diagonal, as the programs' constant holds it. -/
def eps : ℝ := 10995116 / 1099511627776

/-- The word of the number added to the diagonal. -/
theorem ofBits_eps : Ideal.ofBits .f32 0x3727C5AC#32 = ((eps : ℝ) : EReal) := by
  unfold eps
  simp [Ideal.ofBits, Ideal.ieee, -EReal.coe_mul]
  norm_num

/-- The covariance the programs invert: `eps` added to the diagonal. -/
def cov (R : Fin 3 → Fin 3 → ℝ) : Fin 3 → Fin 3 → ℝ := fun i j => if i = j then R i j + eps else R i j

/-- The real matrix of an array. -/
def dnM {a b : ℕ} (v : FVec Ideal ⟨2, ![a, b]⟩ .f32) : Fin a → Fin b → ℝ := fun i j => EReal.toReal (v (ix2 i j))

/-- The real vector of an array. -/
def dnV {a : ℕ} (v : FVec Ideal ⟨1, ![a]⟩ .f32) : Fin a → ℝ := fun i => EReal.toReal (v (ix1 i))

/-- An array of finite elements is its real matrix's. -/
theorem up_dnM {a b : ℕ} {v : FVec Ideal ⟨2, ![a, b]⟩ .f32} (h : ∀ i, max (v i : EReal) (-(v i : EReal)) < ⊤) :
    v = upM (dnM v) := by
  funext i
  have e : i = ix2 (i 0) (i 1) := eq_ix2 i
  rw [e]
  exact real_of_abs_lt (h _)

/-- An array of finite elements is its real vector's. -/
theorem up_dnV {a : ℕ} {v : FVec Ideal ⟨1, ![a]⟩ .f32} (h : ∀ i, max (v i : EReal) (-(v i : EReal)) < ⊤) :
    v = upV (dnV v) := by
  funext i
  have e : i = ix1 (i 0) := eq_ix1 i
  rw [e]
  exact real_of_abs_lt (h _)

/-- The number of observations' reciprocal. -/
theorem ofBits_rec : Ideal.ofBits .f32 0x36000000#32 = (((1 : ℝ) / 524288 : ℝ) : EReal) := by
  simp [Ideal.ofBits, Ideal.ieee, -EReal.coe_mul]
  norm_num

/-- The number of observations. -/
theorem ofBits_count : Ideal.ofBits .f32 0x49000000#32 = ((524288 : ℝ) : EReal) := by
  simp [Ideal.ofBits, Ideal.ieee, -EReal.coe_mul]
  norm_num

/-- The infinite element. -/
theorem ofBits_inf : Ideal.ofBits .f32 0x7F800000#32 = ⊤ := by
  simp [Ideal.ofBits, Ideal.ieee]

/-- The observations as a sequence. -/
def seq (Y : Fin 524288 → Fin 3 → ℝ) (t : ℕ) : Fin 3 → ℝ := Y ⟨t % 524288, Nat.mod_lt _ (by decide)⟩

/-- An observation of the sequence. -/
theorem seq_of_lt (Y : Fin 524288 → Fin 3 → ℝ) {t : ℕ} (h : t < 524288) : seq Y t = Y ⟨t, h⟩ :=
  congrArg Y (Fin.ext (Nat.mod_eq_of_lt h))

end Cert.Lift

end
-- ==== Proof.Elim.lean ====
/-
  Gauss-Jordan elimination of a 3×3 matrix over the real numbers, as the reference writes it: rows of six numbers (the
  matrix beside the unit matrix), partial pivoting, one column after another. When the determinant is not zero every
  pivot is not zero and the right halves of the rows end as the inverse, which is the cofactors over the determinant.
-/
module

public import Mathlib.Data.Real.Basic
public import Mathlib.Data.Fin.VecNotation
public import Mathlib.Tactic.FieldSimp
public import Mathlib.Tactic.Ring
public import Mathlib.Tactic.LinearCombination
public import Mathlib.Tactic.Linarith
public import Mathlib.Algebra.Order.AbsoluteValue.Basic

@[expose] public section

noncomputable section

namespace Cert.Elim

/-- A row: the matrix's three entries, then the unit matrix's. -/
abbrev Row := Fin 6 → ℝ

/-- The upper of two rows after the exchange at column `k`. -/
def top (k : Fin 6) (a b : Row) : Row := if |a k| < |b k| then b else a

/-- The lower of two rows after the exchange at column `k`. -/
def bot (k : Fin 6) (a b : Row) : Row := if |a k| < |b k| then a else b

/-- The pivot's row over its pivot. -/
def unit (k : Fin 6) (a : Row) : Row := fun j => a j / a k

/-- A row less the multiple of the pivot's row `p` that clears column `k`. -/
def clear (k : Fin 6) (p a : Row) : Row := fun j => a j - a k * p j

/-- The rows belong to the matrix of rows `s₀ s₁ s₂`: the left half is the right half's combination of them. -/
def Of (s : Fin 3 → Fin 3 → ℝ) (a : Row) : Prop :=
  a 0 = a 3 * s 0 0 + a 4 * s 1 0 + a 5 * s 2 0 ∧ a 1 = a 3 * s 0 1 + a 4 * s 1 1 + a 5 * s 2 1
    ∧ a 2 = a 3 * s 0 2 + a 4 * s 1 2 + a 5 * s 2 2

/-- The determinant of three rows' left halves. -/
def det (a b c : Row) : ℝ :=
  a 0 * (b 1 * c 2 - b 2 * c 1) - a 1 * (b 0 * c 2 - b 2 * c 0) + a 2 * (b 0 * c 1 - b 1 * c 0)

variable {s : Fin 3 → Fin 3 → ℝ} {a b c p : Row} {k : Fin 6}

/-- The exchange keeps what the rows belong to. -/
theorem Of.top (ha : Of s a) (hb : Of s b) : Of s (top k a b) := by unfold Elim.top; split <;> assumption
/-- So for the lower row. -/
theorem Of.bot (ha : Of s a) (hb : Of s b) : Of s (bot k a b) := by unfold Elim.bot; split <;> assumption

/-- So does the division. -/
theorem Of.unit (ha : Of s a) : Of s (unit k a) := by
  obtain ⟨h0, h1, h2⟩ := ha
  refine ⟨?_, ?_, ?_⟩ <;> unfold Elim.unit
  · rw [h0]; ring
  · rw [h1]; ring
  · rw [h2]; ring

/-- And the clearing. -/
theorem Of.clear (hp : Of s p) (ha : Of s a) : Of s (clear k p a) := by
  obtain ⟨h0, h1, h2⟩ := ha
  obtain ⟨g0, g1, g2⟩ := hp
  refine ⟨?_, ?_, ?_⟩ <;> unfold Elim.clear
  · rw [h0, g0]; ring
  · rw [h1, g1]; ring
  · rw [h2, g2]; ring

/-- After an exchange the upper row's entry is the larger of the two. -/
theorem bot_le : |bot k a b k| ≤ |top k a b k| := by
  unfold bot top
  split
  · exact le_of_lt ‹_›
  · exact not_lt.mp ‹_›

/-- An exchange leaves the two rows or swaps them. -/
theorem top_cases : (top k a b = a ∧ bot k a b = b) ∨ (top k a b = b ∧ bot k a b = a) := by
  unfold bot top
  split
  · exact .inr ⟨rfl, rfl⟩
  · exact .inl ⟨rfl, rfl⟩

/-- The upper row's entry is at least the first row's. -/
theorem le_top : |a k| ≤ |top k a b k| := by
  unfold top
  split
  · exact le_of_lt ‹_›
  · exact le_refl _

/-- A number no larger than zero in size is zero. -/
theorem zero_of_le {x y : ℝ} (h : |x| ≤ |y|) (hy : y = 0) : x = 0 := by
  rw [hy, abs_zero] at h
  exact abs_nonpos_iff.mp h

variable (r₀ r₁ r₂ : Row)

/-- The first pivot's row, before its division. -/
def p0 : Row := top 0 (top 0 r₀ r₁) r₂
/-- The second row after the first column's exchanges. -/
def q1 : Row := bot 0 r₀ r₁
/-- The third row after the first column's exchanges. -/
def q2 : Row := bot 0 (top 0 r₀ r₁) r₂
/-- The first pivot's row. -/
def u0 : Row := unit 0 (p0 r₀ r₁ r₂)
/-- The second row with its first column cleared. -/
def e1 : Row := clear 0 (u0 r₀ r₁ r₂) (q1 r₀ r₁)
/-- The third row with its first column cleared. -/
def e2 : Row := clear 0 (u0 r₀ r₁ r₂) (q2 r₀ r₁ r₂)
/-- The second pivot's row, before its division. -/
def p1 : Row := top 1 (e1 r₀ r₁ r₂) (e2 r₀ r₁ r₂)
/-- The third row after the second column's exchange. -/
def q3 : Row := bot 1 (e1 r₀ r₁ r₂) (e2 r₀ r₁ r₂)
/-- The second pivot's row. -/
def u1 : Row := unit 1 (p1 r₀ r₁ r₂)
/-- The first row with its second column cleared. -/
def f0 : Row := clear 1 (u1 r₀ r₁ r₂) (u0 r₀ r₁ r₂)
/-- The third row with its second column cleared: the third pivot's row before its division. -/
def p2 : Row := clear 1 (u1 r₀ r₁ r₂) (q3 r₀ r₁ r₂)
/-- The third row of the result. -/
def u2 : Row := unit 2 (p2 r₀ r₁ r₂)
/-- The first row of the result. -/
def z0 : Row := clear 2 (u2 r₀ r₁ r₂) (f0 r₀ r₁ r₂)
/-- The second row of the result. -/
def z1 : Row := clear 2 (u2 r₀ r₁ r₂) (u1 r₀ r₁ r₂)

variable {r₀ r₁ r₂}

/-- The first pivot is not zero. -/
theorem p0_ne (h : det r₀ r₁ r₂ ≠ 0) : p0 r₀ r₁ r₂ 0 ≠ 0 := by
  intro hp
  have h2 : top 0 r₀ r₁ 0 = 0 := zero_of_le (le_top (b := r₂)) hp
  have h3 : q2 r₀ r₁ r₂ 0 = 0 := zero_of_le bot_le hp
  have h0 : r₀ 0 = 0 := zero_of_le (le_top (b := r₁)) h2
  have h1 : q1 r₀ r₁ 0 = 0 := zero_of_le bot_le h2
  apply h
  have e2 : r₂ 0 = 0 := by
    rcases top_cases (k := 0) (a := top 0 r₀ r₁) (b := r₂) with ⟨_, e⟩ | ⟨e, _⟩
    · rw [← e]; exact h3
    · rw [← e]; exact hp
  have e1 : r₁ 0 = 0 := by
    rcases top_cases (k := 0) (a := r₀) (b := r₁) with ⟨_, e⟩ | ⟨e, _⟩
    · rw [← e]; exact h1
    · rw [← e]; exact h2
  unfold det
  rw [h0, e1, e2]
  ring

/-- The determinant after the first column's exchanges is not zero. -/
theorem det_exch (h : det r₀ r₁ r₂ ≠ 0) : det (p0 r₀ r₁ r₂) (q1 r₀ r₁) (q2 r₀ r₁ r₂) ≠ 0 := by
  have sw01 : ∀ x y z : Row, det x y z = - det y x z := fun x y z => by unfold det; ring
  have sw02 : ∀ x y z : Row, det x y z = - det z y x := fun x y z => by unfold det; ring
  have one : det (top 0 r₀ r₁) (q1 r₀ r₁) r₂ ≠ 0 := by
    unfold q1
    rcases top_cases (k := 0) (a := r₀) (b := r₁) with ⟨e, e'⟩ | ⟨e, e'⟩
    · rw [e, e']; exact h
    · rw [e, e', sw01]; exact neg_ne_zero.mpr h
  unfold p0 q2
  rcases top_cases (k := 0) (a := top 0 r₀ r₁) (b := r₂) with ⟨e, e'⟩ | ⟨e, e'⟩
  · rw [e, e']; exact one
  · rw [e, e', sw02]; exact neg_ne_zero.mpr one

/-- The first pivot's row starts with one. -/
theorem u0_zero (h : det r₀ r₁ r₂ ≠ 0) : u0 r₀ r₁ r₂ 0 = 1 := div_self (p0_ne h)
/-- The second row's first entry is cleared. -/
theorem e1_zero (h : det r₀ r₁ r₂ ≠ 0) : e1 r₀ r₁ r₂ 0 = 0 := by unfold e1 clear; rw [u0_zero h]; ring
/-- The third row's first entry is cleared. -/
theorem e2_zero (h : det r₀ r₁ r₂ ≠ 0) : e2 r₀ r₁ r₂ 0 = 0 := by unfold e2 clear; rw [u0_zero h]; ring

/-- The 2×2 determinant left after the first column is not zero. -/
theorem minor_ne (h : det r₀ r₁ r₂ ≠ 0) :
    e1 r₀ r₁ r₂ 1 * e2 r₀ r₁ r₂ 2 - e1 r₀ r₁ r₂ 2 * e2 r₀ r₁ r₂ 1 ≠ 0 := by
  intro hm
  apply det_exch h
  have hp := p0_ne h
  have key : det (p0 r₀ r₁ r₂) (q1 r₀ r₁) (q2 r₀ r₁ r₂)
      = p0 r₀ r₁ r₂ 0 * (e1 r₀ r₁ r₂ 1 * e2 r₀ r₁ r₂ 2 - e1 r₀ r₁ r₂ 2 * e2 r₀ r₁ r₂ 1) := by
    unfold e1 e2 u0 clear unit det
    field_simp
    ring
  rw [key, hm, mul_zero]

/-- Nor after the second exchange. -/
theorem minor_exch (h : det r₀ r₁ r₂ ≠ 0) :
    p1 r₀ r₁ r₂ 1 * q3 r₀ r₁ r₂ 2 - p1 r₀ r₁ r₂ 2 * q3 r₀ r₁ r₂ 1 ≠ 0 := by
  have hm := minor_ne h
  unfold p1 q3
  rcases top_cases (k := 1) (a := e1 r₀ r₁ r₂) (b := e2 r₀ r₁ r₂) with ⟨e, e'⟩ | ⟨e, e'⟩
  · rw [e, e']; exact hm
  · rw [e, e']; intro hz; apply hm; linear_combination -hz

/-- The second pivot is not zero. -/
theorem p1_ne (h : det r₀ r₁ r₂ ≠ 0) : p1 r₀ r₁ r₂ 1 ≠ 0 := by
  intro hp
  have hq : q3 r₀ r₁ r₂ 1 = 0 := zero_of_le bot_le hp
  apply minor_exch h
  rw [hp, hq]
  ring

/-- The third pivot is not zero. -/
theorem p2_ne (h : det r₀ r₁ r₂ ≠ 0) : p2 r₀ r₁ r₂ 2 ≠ 0 := by
  intro hp
  apply minor_exch h
  have h1 := p1_ne h
  have key : p1 r₀ r₁ r₂ 1 * p2 r₀ r₁ r₂ 2
      = p1 r₀ r₁ r₂ 1 * q3 r₀ r₁ r₂ 2 - p1 r₀ r₁ r₂ 2 * q3 r₀ r₁ r₂ 1 := by
    unfold p2 u1 clear unit
    field_simp
  rw [← key, hp, mul_zero]

/-- The second pivot's row starts with zero. -/
theorem p1_zero (h : det r₀ r₁ r₂ ≠ 0) : p1 r₀ r₁ r₂ 0 = 0 := by
  unfold p1 top; split
  · exact e2_zero h
  · exact e1_zero h
/-- After the first column is cleared the third row starts with zero. -/
theorem q3_zero (h : det r₀ r₁ r₂ ≠ 0) : q3 r₀ r₁ r₂ 0 = 0 := by
  unfold q3 bot; split
  · exact e1_zero h
  · exact e2_zero h
/-- The second pivot's row starts with zero after the division. -/
theorem u1_zero (h : det r₀ r₁ r₂ ≠ 0) : u1 r₀ r₁ r₂ 0 = 0 := by unfold u1 unit; rw [p1_zero h, zero_div]
/-- Its second entry is one. -/
theorem u1_one (h : det r₀ r₁ r₂ ≠ 0) : u1 r₀ r₁ r₂ 1 = 1 := div_self (p1_ne h)
/-- The third pivot's row starts with zero. -/
theorem p2_zero (h : det r₀ r₁ r₂ ≠ 0) : p2 r₀ r₁ r₂ 0 = 0 := by
  unfold p2 clear; rw [q3_zero h, u1_zero h]; ring
/-- Its second entry is zero. -/
theorem p2_one (h : det r₀ r₁ r₂ ≠ 0) : p2 r₀ r₁ r₂ 1 = 0 := by unfold p2 clear; rw [u1_one h]; ring
/-- So after the division: its first entry, -/
theorem u2_zero (h : det r₀ r₁ r₂ ≠ 0) : u2 r₀ r₁ r₂ 0 = 0 := by unfold u2 unit; rw [p2_zero h, zero_div]
/-- its second, -/
theorem u2_one (h : det r₀ r₁ r₂ ≠ 0) : u2 r₀ r₁ r₂ 1 = 0 := by unfold u2 unit; rw [p2_one h, zero_div]
/-- and its third is one. -/
theorem u2_two (h : det r₀ r₁ r₂ ≠ 0) : u2 r₀ r₁ r₂ 2 = 1 := div_self (p2_ne h)

/-- The left half of the first row of the result is the unit matrix's. -/
theorem z0_left (h : det r₀ r₁ r₂ ≠ 0) : z0 r₀ r₁ r₂ 0 = 1 ∧ z0 r₀ r₁ r₂ 1 = 0 ∧ z0 r₀ r₁ r₂ 2 = 0 := by
  unfold z0 f0 clear
  rw [u2_zero h, u2_one h, u2_two h, u1_zero h, u1_one h, u0_zero h]
  refine ⟨?_, ?_, ?_⟩ <;> ring

/-- The left half of the second row of the result is the unit matrix's. -/
theorem z1_left (h : det r₀ r₁ r₂ ≠ 0) : z1 r₀ r₁ r₂ 0 = 0 ∧ z1 r₀ r₁ r₂ 1 = 1 ∧ z1 r₀ r₁ r₂ 2 = 0 := by
  unfold z1 clear
  rw [u2_zero h, u2_one h, u2_two h, u1_zero h, u1_one h]
  refine ⟨?_, ?_, ?_⟩ <;> ring

/-! ## The result is the cofactors over the determinant -/

variable (s)

/-- The determinant of a 3×3 matrix, by its first row. -/
def det3 : ℝ :=
  s 0 0 * (s 1 1 * s 2 2 - s 1 2 * s 2 1) - s 0 1 * (s 1 0 * s 2 2 - s 1 2 * s 2 0)
    + s 0 2 * (s 1 0 * s 2 1 - s 1 1 * s 2 0)

/-- The transposed cofactors of a 3×3 matrix. -/
def cof : Fin 3 → Fin 3 → ℝ :=
  ![![s 1 1 * s 2 2 - s 1 2 * s 2 1, s 0 2 * s 2 1 - s 0 1 * s 2 2, s 0 1 * s 1 2 - s 0 2 * s 1 1],
    ![s 1 2 * s 2 0 - s 1 0 * s 2 2, s 0 0 * s 2 2 - s 0 2 * s 2 0, s 0 2 * s 1 0 - s 0 0 * s 1 2],
    ![s 1 0 * s 2 1 - s 1 1 * s 2 0, s 0 1 * s 2 0 - s 0 0 * s 2 1, s 0 0 * s 1 1 - s 0 1 * s 1 0]]

/-- The inverse by cofactors. -/
def inv : Fin 3 → Fin 3 → ℝ := fun i j => cof s i j / det3 s

variable {s}

/-- A row of the matrix whose left half is `x y z` has the combination of the cofactors for its right half. -/
theorem right_of (hd : det3 s ≠ 0) (ha : Of s a) (j : Fin 3) :
    (![a 3, a 4, a 5] : Fin 3 → ℝ) j = a 0 * inv s 0 j + a 1 * inv s 1 j + a 2 * inv s 2 j := by
  obtain ⟨h0, h1, h2⟩ := ha
  unfold inv
  rw [mul_div_assoc', mul_div_assoc', mul_div_assoc', ← add_div, ← add_div, eq_div_iff hd, h0, h1, h2]
  unfold det3
  match j with
  | 0 =>
    show a 3 * _ = _ * (s 1 1 * s 2 2 - s 1 2 * s 2 1) + _ * (s 1 2 * s 2 0 - s 1 0 * s 2 2)
      + _ * (s 1 0 * s 2 1 - s 1 1 * s 2 0)
    ring
  | 1 =>
    show a 4 * _ = _ * (s 0 2 * s 2 1 - s 0 1 * s 2 2) + _ * (s 0 0 * s 2 2 - s 0 2 * s 2 0)
      + _ * (s 0 1 * s 2 0 - s 0 0 * s 2 1)
    ring
  | 2 =>
    show a 5 * _ = _ * (s 0 1 * s 1 2 - s 0 2 * s 1 1) + _ * (s 0 2 * s 1 0 - s 0 0 * s 1 2)
      + _ * (s 0 0 * s 1 1 - s 0 1 * s 1 0)
    ring

/-- THE RESULT: when the determinant is not zero, the right halves of the result's rows are the inverse by cofactors. -/
theorem result (hd : det3 s ≠ 0) (h0 : Of s r₀) (h1 : Of s r₁) (h2 : Of s r₂) (hr : det r₀ r₁ r₂ ≠ 0) (j : Fin 3) :
    (![z0 r₀ r₁ r₂ 3, z0 r₀ r₁ r₂ 4, z0 r₀ r₁ r₂ 5] : Fin 3 → ℝ) j = inv s 0 j
    ∧ (![z1 r₀ r₁ r₂ 3, z1 r₀ r₁ r₂ 4, z1 r₀ r₁ r₂ 5] : Fin 3 → ℝ) j = inv s 1 j
    ∧ (![u2 r₀ r₁ r₂ 3, u2 r₀ r₁ r₂ 4, u2 r₀ r₁ r₂ 5] : Fin 3 → ℝ) j = inv s 2 j := by
  have ot : Of s (top 0 r₀ r₁) := h0.top h1
  have o0 : Of s (u0 r₀ r₁ r₂) := (ot.top h2).unit
  have oe1 : Of s (e1 r₀ r₁ r₂) := o0.clear (h0.bot h1)
  have oe2 : Of s (e2 r₀ r₁ r₂) := o0.clear (ot.bot h2)
  have o1 : Of s (u1 r₀ r₁ r₂) := (oe1.top oe2).unit
  have o2 : Of s (u2 r₀ r₁ r₂) := (o1.clear (oe1.bot oe2)).unit
  have oz0 : Of s (z0 r₀ r₁ r₂) := o2.clear (o1.clear o0)
  have oz1 : Of s (z1 r₀ r₁ r₂) := o2.clear o1
  obtain ⟨a0, a1, a2⟩ := z0_left hr
  obtain ⟨b0, b1, b2⟩ := z1_left hr
  refine ⟨?_, ?_, ?_⟩
  · rw [right_of hd oz0, a0, a1, a2]; ring
  · rw [right_of hd oz1, b0, b1, b2]; ring
  · rw [right_of hd o2, u2_zero hr, u2_one hr, u2_two hr]; ring

end Cert.Elim

end
-- ==== Proof.Ker.lean ====
/-
  The kernel's values over the extended reals, at finite arguments: every block's rows are those of the model over the
  real numbers.
-/
module

public import proofs.«01_k».proof.Proof.IdealBody
public import proofs.«01_k».proof.Proof.Lift
public import proofs.«01_k».proof.Proof.Elim

@[expose] public section

set_option maxRecDepth 16384

noncomputable section

namespace Cert.KernelIdeal.Hand

open Idealize.ShloMosaic Cert.KernelIdeal Cert.KernelIdeal.Gen Cert.Lift Cert.Model Matrix

/-- A vector as a matrix of `n` equal rows. -/
abbrev rows {a : ℕ} (n : ℕ) (v : Fin a → ℝ) : Fin n → Fin a → ℝ := fun _ => v

variable (N : Net) (Rm : Fin 3 → Fin 3 → ℝ)

/-- The arguments' blocks of a network and a covariance of real numbers. -/
def prmOf : Prm Ideal :=
  ⟨upM N.We1, upM (rows 1 N.be1), upM N.We2, upM (rows 1 N.be2), upM N.Wt1, upM (rows 1 N.bt1), upM N.Wt2,
    upM (rows 1 N.bt2), upM N.Wd1, upM (rows 1 N.bd1), upM N.Wd2, upM (rows 1 N.bd2), upM Rm⟩

/-- The products of weights, as real matrices. -/
theorem W_up : (prmOf N Rm).W = ⟨upM (N.Wt2 * N.Wd1), upM (N.Wd2 * N.We1), upM (N.Wt2 * N.Wt1), upM (N.We2 * N.Wt1),
    upM (rows 1 (N.bt2 ᵥ* N.Wd1 + N.bd1)), upM (rows 1 ((N.bt2 + N.be2) ᵥ* N.Wt1 + N.bt1))⟩ := by
  unfold Prm.W prmOf
  congr 1 <;> funext i <;> idx_vars i
  · pointwise [upM, k0_pay36]
    exact coe_dot _ _
  · pointwise [upM, k0_pay37]
    exact coe_dot _ _
  · pointwise [upM, k0_pay38]
    exact coe_dot _ _
  · pointwise [upM, k0_pay39]
    exact coe_dot _ _
  · pointwise [upM, k0_pay40, k0_pay32]
    rw [coe_dot, ← EReal.coe_add]
    rfl
  · pointwise [upM, k0_pay41, k0_pay30, k0_pay31, k0_pay32]
    simp only [← EReal.coe_add]
    rw [coe_dot, ← EReal.coe_add]
    rfl

/-- The observations' block as the encoder takes it. -/
theorem cy_up (Y : Fin 2048 → Fin 3 → ℝ) : (prmOf N Rm).cy (upM Y) = upM fun r => kY N (Y r) := by
  funext i
  idx_vars i
  unfold Prm.cy prmOf
  pointwise [upM, k0_pay42, k0_pay29, k0_pay33]
  simp only [coe_dot, ← EReal.coe_add, ← EReal.coe_sub]
  rfl

/-- A row times a matrix, of real numbers. -/
theorem rowDot_up (h : Fin 32 → ℝ) (M : Matrix (Fin 32) (Fin 32) ℝ) :
    rowDot (upM (rows 1 h)) (upM M) = upM (rows 1 (h ᵥ* M)) := by
  funext i
  idx_vars i
  unfold rowDot
  pointwise [upM]
  exact coe_dot _ _

/-- A sum of real arrays. -/
theorem addf_up {a b : ℕ} (x y : Fin a → Fin b → ℝ) : addf (upM x) (upM y) = upM fun i j => x i j + y i j := by
  funext i
  exact (EReal.coe_add _ _).symm

/-- A difference of real arrays. -/
theorem subf_up {a b : ℕ} (x y : Fin a → Fin b → ℝ) : subf (upM x) (upM y) = upM fun i j => x i j - y i j := by
  funext i
  exact (EReal.coe_sub _ _).symm

/-- The larger of a real row and zero. -/
theorem pos_up (h : Fin 32 → ℝ) : pos (upM (rows 1 h)) = upM (rows 1 (relu h)) := by
  funext i
  idx_vars i
  unfold pos
  pointwise [upM]
  exact coe_relu _

/-- The decoder's hidden row. -/
theorem dec_up (g : Fin 32 → ℝ) : dec (prmOf N Rm).W (upM (rows 1 g)) = upM (rows 1 (kD N g)) := by
  rw [W_up]
  unfold dec
  rw [rowDot_up, addf_up]
  exact pos_up (g ᵥ* (N.Wt2 * N.Wd1) + (N.bt2 ᵥ* N.Wd1 + N.bd1))

/-- The encoder's hidden row. -/
theorem enc_up (y : Fin 3 → ℝ) (g : Fin 32 → ℝ) :
    enc (prmOf N Rm).W (upM (rows 1 (kY N y))) (upM (rows 1 g)) = upM (rows 1 (kE N y g)) := by
  unfold enc
  rw [dec_up, W_up, rowDot_up, subf_up]
  exact pos_up (kY N y - kD N g ᵥ* (N.Wd2 * N.We1))

/-- The next transition's hidden row. -/
theorem nxt_up (y : Fin 3 → ℝ) (g : Fin 32 → ℝ) :
    nxt (prmOf N Rm).W (upM (rows 1 (kY N y))) (upM (rows 1 g)) = upM (rows 1 (kN N y g)) := by
  unfold nxt
  rw [enc_up, W_up, rowDot_up, rowDot_up, addf_up, addf_up]
  exact pos_up (g ᵥ* (N.Wt2 * N.Wt1) + kE N y g ᵥ* (N.We2 * N.Wt1) + ((N.bt2 + N.be2) ᵥ* N.Wt1 + N.bt1))

/-! ## A block of 2048 observations, the first of them number `t` -/

/-- The 2048 observations from number `t` on. -/
abbrev blk (y : ℕ → Fin 3 → ℝ) (t : ℕ) : Fin 2048 → Fin 3 → ℝ := fun r => y (t + r.val)

variable {N Rm}
variable (y : ℕ → Fin 3 → ℝ) (t : ℕ)

/-- The carried row before observation `t`: the hidden layer of the model's state. -/
abbrev rowOf (N : Net) (y : ℕ → Fin 3 → ℝ) (t : ℕ) : FVec Ideal S1x32 .f32 := upM (rows 1 (hT N (st N y t)))

/-- The carried row within a block is the model's. -/
theorem rowAt_up (r : ℕ) (hr : r < 2048) :
    rowAt ((prmOf N Rm).cy (upM (blk y t))) r = upM (rows 1 (kY N (y (t + r)))) := by
  rw [cy_up]
  funext i
  unfold rowAt upM rows blk
  show ((kY N (y (t + r % 2048)) (i 1) : ℝ) : EReal) = _
  rw [Nat.mod_eq_of_lt hr]

/-- The hidden row before row `r` of the block is the hidden layer of the model's state `t + r`. -/
theorem hid_up : ∀ r, r ≤ 2048 →
    hid (prmOf N Rm).W ((prmOf N Rm).cy (upM (blk y t))) (rowOf N y t) r = rowOf N y (t + r)
  | 0, _ => rfl
  | r + 1, hr => by
    rw [hid, hid_up r (by omega), rowAt_up y t r (by omega)]
    unfold rowOf
    rw [nxt_up, kN_eq (y (t + r)) rfl]
    rfl

/-- A block carries the row on by its 2048 observations. -/
theorem carry_up : (prmOf N Rm).carry (upM (blk y t)) (rowOf N y t) = rowOf N y (t + 2048) := by
  unfold Prm.carry
  rw [hid_up y t 2048 (le_refl _)]
  funext i
  idx_vars i
  pointwise [k0_pay47]

/-- The block's rows of the transition's hidden layer. -/
theorem hidM_up : hidM (prmOf N Rm).W ((prmOf N Rm).cy (upM (blk y t))) (rowOf N y t)
    = upM fun r => hT N (st N y (t + r.val)) := by
  funext i
  unfold hidM
  rw [hid_up y t _ (le_of_lt (i 0).isLt)]
  rfl

/-- The block's rows of the decoder's. -/
theorem decM_up : decM (prmOf N Rm).W ((prmOf N Rm).cy (upM (blk y t))) (rowOf N y t)
    = upM fun r => hD N (st N y (t + r.val)) := by
  funext i
  unfold decM
  rw [hid_up y t _ (le_of_lt (i 0).isLt)]
  unfold rowOf
  rw [dec_up, kD_eq rfl]
  rfl

/-- The block's rows of the encoder's. -/
theorem encM_up : encM (prmOf N Rm).W ((prmOf N Rm).cy (upM (blk y t))) (rowOf N y t)
    = upM fun r => kE N (y (t + r.val)) (hT N (st N y (t + r.val))) := by
  funext i
  unfold encM
  rw [hid_up y t _ (le_of_lt (i 0).isLt), rowAt_up y t _ (i 0).isLt]
  unfold rowOf
  rw [enc_up]
  rfl

/-- A block's latents are the model's next states. -/
theorem lat_up : (prmOf N Rm).lat (upM (blk y t)) (rowOf N y t) = upM fun r => st N y (t + r.val + 1) := by
  unfold Prm.lat
  rw [hidM_up, encM_up]
  funext i
  idx_vars i
  pointwise [upM, k0_pay48, k0_pay30, k0_pay32, prmOf]
  simp only [coe_dot, ← EReal.coe_add]
  exact congrArg _ (congrFun (lat_eq (N := N) (y (t + i0.val)) rfl) i1)

/-- A block's innovations are the model's. -/
theorem innov_up : (prmOf N Rm).innov (upM (blk y t)) (rowOf N y t)
    = upM fun r => inn N (y (t + r.val)) (st N y (t + r.val)) := by
  unfold Prm.innov
  rw [decM_up]
  funext i
  idx_vars i
  pointwise [upM, k0_pay49, k0_pay33, prmOf]
  simp only [coe_dot, ← EReal.coe_add, ← EReal.coe_sub]
  rfl

/-! ## The loss -/

/-- A row's element times its product with a column given as numerators over one denominator. -/
theorem close (z a b c p q r δ : ℝ) :
    ((z : ℝ) : EReal) * (((a : ℝ) : EReal) * ((p * (1 / δ) : ℝ) : EReal) + ((b : ℝ) : EReal) * ((q * (1 / δ) : ℝ) : EReal)
      + ((c : ℝ) : EReal) * ((r * (1 / δ) : ℝ) : EReal)) = ((z * (a * (p / δ) + b * (q / δ) + c * (r / δ)) : ℝ) : EReal) := by
  simp only [← EReal.coe_add, ← EReal.coe_mul, mul_one_div]

/-- A block's weighted squares, element by element, when the covariance has an inverse. -/
theorem sq_up (hd : Elim.det3 (cov Rm) ≠ 0) (Z : Fin 2048 → Fin 3 → ℝ) (r : Fin 2048) (j : Fin 3) :
    (prmOf N Rm).sq (upM Z) (ix3 0 r j) = ((Z r j * (Z r ᵥ* Elim.inv (cov Rm)) j : ℝ) : EReal) := by
  unfold Prm.sq prmOf
  pointwise [upM, k0_pay50, k0_pay51, k0_pay52, k0_pay53, k0_pay54, k0_pay55, k0_pay56]
  have hd' : (Rm 0 0 + eps) * ((Rm 1 1 + eps) * (Rm 2 2 + eps) - Rm 1 2 * Rm 2 1)
      - Rm 0 1 * (Rm 1 0 * (Rm 2 2 + eps) - Rm 1 2 * Rm 2 0)
      + Rm 0 2 * (Rm 1 0 * Rm 2 1 - (Rm 1 1 + eps) * Rm 2 0) ≠ 0 := hd
  rw [Fin.sum_univ_three, show (1 : EReal) = ((1 : ℝ) : EReal) from rfl, ofBits_eps]
  simp only [← EReal.coe_add, ← EReal.coe_mul, ← EReal.coe_sub, coe_div _ _ hd']
  have hs : (Z r ᵥ* Elim.inv (cov Rm)) j = Z r 0 * Elim.inv (cov Rm) 0 j + Z r 1 * Elim.inv (cov Rm) 1 j
      + Z r 2 * Elim.inv (cov Rm) 2 j := Fin.sum_univ_three fun i => Z r i * Elim.inv (cov Rm) i j
  rw [hs]
  unfold Elim.inv
  have hdet : Elim.det3 (cov Rm) = (Rm 0 0 + eps) * ((Rm 1 1 + eps) * (Rm 2 2 + eps) - Rm 1 2 * Rm 2 1)
      - Rm 0 1 * (Rm 1 0 * (Rm 2 2 + eps) - Rm 1 2 * Rm 2 0)
      + Rm 0 2 * (Rm 1 0 * Rm 2 1 - (Rm 1 1 + eps) * Rm 2 0) := rfl
  rw [hdet]
  generalize (Rm 0 0 + eps) * ((Rm 1 1 + eps) * (Rm 2 2 + eps) - Rm 1 2 * Rm 2 1)
      - Rm 0 1 * (Rm 1 0 * (Rm 2 2 + eps) - Rm 1 2 * Rm 2 0)
      + Rm 0 2 * (Rm 1 0 * Rm 2 1 - (Rm 1 1 + eps) * Rm 2 0) = δ
  fin_vals j with hj
  all_goals simp only [hj, Fin.val_zero, Fin.val_one, Fin.val_two, Nat.reduceSub, Nat.reduceLT, ↓reduceDIte]
  · obtain rfl : j = 0 := Fin.ext hj
    rw [show Elim.cof (cov Rm) 0 0 = (Rm 1 1 + eps) * (Rm 2 2 + eps) - Rm 1 2 * Rm 2 1 from rfl,
      show Elim.cof (cov Rm) 1 0 = Rm 1 2 * Rm 2 0 - Rm 1 0 * (Rm 2 2 + eps) from rfl,
      show Elim.cof (cov Rm) 2 0 = Rm 1 0 * Rm 2 1 - (Rm 1 1 + eps) * Rm 2 0 from rfl]
    exact close _ _ _ _ _ _ _ _
  · obtain rfl : j = 1 := Fin.ext hj
    rw [show Elim.cof (cov Rm) 0 1 = Rm 0 2 * Rm 2 1 - Rm 0 1 * (Rm 2 2 + eps) from rfl,
      show Elim.cof (cov Rm) 1 1 = (Rm 0 0 + eps) * (Rm 2 2 + eps) - Rm 0 2 * Rm 2 0 from rfl,
      show Elim.cof (cov Rm) 2 1 = Rm 0 1 * Rm 2 0 - (Rm 0 0 + eps) * Rm 2 1 from rfl]
    exact close _ _ _ _ _ _ _ _
  · obtain rfl : j = 2 := Fin.ext hj
    rw [show Elim.cof (cov Rm) 0 2 = Rm 0 1 * Rm 1 2 - Rm 0 2 * (Rm 1 1 + eps) from rfl,
      show Elim.cof (cov Rm) 1 2 = Rm 0 2 * Rm 1 0 - (Rm 0 0 + eps) * Rm 1 2 from rfl,
      show Elim.cof (cov Rm) 2 2 = (Rm 0 0 + eps) * (Rm 1 1 + eps) - Rm 0 1 * Rm 1 0 from rfl]
    exact close _ _ _ _ _ _ _ _

/-- The accumulated loss after a block: the loss before and the sum of the block's elements. -/
theorem acc_up (l : ℝ) (Z : Fin 2048 → Fin 3 → ℝ) (V : FVec Ideal S1x2048x3 .f32)
    (hV : ∀ r j, V (ix3 0 r j) = ((Z r j : ℝ) : EReal)) :
    k0_pay1 (upM (rows 1 fun _ : Fin 1 => l)) V = upM (rows 1 fun _ : Fin 1 => l + ∑ r, ∑ j, Z r j) := by
  funext i
  idx_vars i
  pointwise [k0_pay1, upM]
  simp only [hV, coe_sum, ← EReal.coe_add]

end Cert.KernelIdeal.Hand

end
-- ==== Proof.KerVal.lean ====
/-
  The kernel's results at finite arguments: the loss and the latents, as values of the model over the real numbers.
-/
module

public import proofs.«01_k».proof.Proof.IdealFrame
public import proofs.«01_k».proof.Proof.Ker
public import Idealize.ShloMosaic.Lib.Claim
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Cert.KernelIdeal Cert.KernelIdeal.Gen Cert.Lift Cert.Model Matrix

variable (m : (ℓ : Loc nD τ sig) → Buf (Elt Ideal) ℓ) (c : Dev nD)
variable (N : Net) (Y : Fin 524288 → Fin 3 → ℝ) (Rm : Fin 3 → Fin 3 → ℝ)

/-- The arguments on a device are the arrays of a network, a sequence and a covariance of real numbers. -/
structure Args : Prop where
  y : m ((c : Thread nD τ).loc main_arg0) = upM Y
  We1 : m ((c : Thread nD τ).loc main_arg1) = upM N.We1
  be1 : m ((c : Thread nD τ).loc main_arg2) = upV N.be1
  We2 : m ((c : Thread nD τ).loc main_arg3) = upM N.We2
  be2 : m ((c : Thread nD τ).loc main_arg4) = upV N.be2
  Wt1 : m ((c : Thread nD τ).loc main_arg5) = upM N.Wt1
  bt1 : m ((c : Thread nD τ).loc main_arg6) = upV N.bt1
  Wt2 : m ((c : Thread nD τ).loc main_arg7) = upM N.Wt2
  bt2 : m ((c : Thread nD τ).loc main_arg8) = upV N.bt2
  Wd1 : m ((c : Thread nD τ).loc main_arg9) = upM N.Wd1
  bd1 : m ((c : Thread nD τ).loc main_arg10) = upV N.bd1
  Wd2 : m ((c : Thread nD τ).loc main_arg11) = upM N.Wd2
  bd2 : m ((c : Thread nD τ).loc main_arg12) = upV N.bd2
  R : m ((c : Thread nD τ).loc main_arg14) = upM Rm

variable {m c N Y Rm}

/-- Where a point's block of observations lies. -/
theorem idx0 : ∀ t : Fin grid0.N, win0_0.index t 0 = t.val ∧ win0_0.index t 1 = 0 := by decide +kernel

/-- Where a point's block of latents lies. -/
theorem idx15 : ∀ t : Fin grid0.N, win0_15.index t 0 = t.val ∧ win0_15.index t 1 = 0 := by decide +kernel

/-- The weights' windows hold their whole arrays, at the origin. -/
theorem idxW (t : Fin grid0.N) : (∀ a, win0_1.index t a = 0) ∧ (∀ a, win0_2.index t a = 0) ∧ (∀ a, win0_3.index t a = 0) ∧ (∀ a, win0_4.index t a = 0) ∧ (∀ a, win0_5.index t a = 0) ∧ (∀ a, win0_6.index t a = 0) ∧ (∀ a, win0_7.index t a = 0) ∧ (∀ a, win0_8.index t a = 0) ∧ (∀ a, win0_9.index t a = 0) ∧ (∀ a, win0_10.index t a = 0) ∧ (∀ a, win0_11.index t a = 0) ∧ (∀ a, win0_12.index t a = 0) ∧ (∀ a, win0_13.index t a = 0) := by
  refine ⟨?_, ?_, ?_, ?_, ?_, ?_, ?_, ?_, ?_, ?_, ?_, ?_, ?_⟩ <;> exact fun | 0 => rfl | 1 => rfl

/-- The biases as the launch finds them: rows. -/
theorem V_bias (h : Args m c N Y Rm) : V m c main_v0 = upM (rows 1 N.be1) ∧ V m c main_v1 = upM (rows 1 N.be2) ∧ V m c main_v2 = upM (rows 1 N.bt1) ∧ V m c main_v3 = upM (rows 1 N.bt2) ∧ V m c main_v4 = upM (rows 1 N.bd1) ∧ V m c main_v5 = upM (rows 1 N.bd2) := by
  refine ⟨?_, ?_, ?_, ?_, ?_, ?_⟩ <;> entry_read
  · rw [h.be1]; funext i; idx_vars i; pointwise [upM, upV]
  · rw [h.be2]; funext i; idx_vars i; pointwise [upM, upV]
  · rw [h.bt1]; funext i; idx_vars i; pointwise [upM, upV]
  · rw [h.bt2]; funext i; idx_vars i; pointwise [upM, upV]
  · rw [h.bd1]; funext i; idx_vars i; pointwise [upM, upV]
  · rw [h.bd2]; funext i; idx_vars i; pointwise [upM, upV]

/-- A pack of blocks is its blocks. -/
theorem prm_ext {p q : Prm Ideal} (h0 : p.We1 = q.We1) (h1 : p.be1 = q.be1) (h2 : p.We2 = q.We2) (h3 : p.be2 = q.be2) (h4 : p.Wt1 = q.Wt1) (h5 : p.bt1 = q.bt1) (h6 : p.Wt2 = q.Wt2) (h7 : p.bt2 = q.bt2) (h8 : p.Wd1 = q.Wd1) (h9 : p.bd1 = q.bd1) (h10 : p.Wd2 = q.Wd2) (h11 : p.bd2 = q.bd2) (h12 : p.R = q.R) : p = q := by
  cases p; cases q
  cases h0; cases h1; cases h2; cases h3; cases h4; cases h5; cases h6; cases h7; cases h8; cases h9; cases h10; cases h11; cases h12
  rfl

set_option maxHeartbeats 2000000 in
/-- A weight's block is the array the window reads. -/
theorem blk_w (t : Fin cfg0.N) : (iblk m c 1 t : Vec Ideal S3x32 .f32) = V m c main_arg1
    ∧ (iblk m c 2 t : Vec Ideal S1x32 .f32) = V m c main_v0
    ∧ (iblk m c 3 t : Vec Ideal S32x6 .f32) = V m c main_arg3
    ∧ (iblk m c 4 t : Vec Ideal S1x6 .f32) = V m c main_v1
    ∧ (iblk m c 5 t : Vec Ideal S6x32 .f32) = V m c main_arg5
    ∧ (iblk m c 6 t : Vec Ideal S1x32 .f32) = V m c main_v2
    ∧ (iblk m c 7 t : Vec Ideal S32x6 .f32) = V m c main_arg7
    ∧ (iblk m c 8 t : Vec Ideal S1x6 .f32) = V m c main_v3
    ∧ (iblk m c 9 t : Vec Ideal S6x32 .f32) = V m c main_arg9
    ∧ (iblk m c 10 t : Vec Ideal S1x32 .f32) = V m c main_v4
    ∧ (iblk m c 11 t : Vec Ideal S32x3 .f32) = V m c main_arg11
    ∧ (iblk m c 12 t : Vec Ideal S1x3 .f32) = V m c main_v5
    ∧ (iblk m c 13 t : Vec Ideal S3x3 .f32) = V m c main_arg14 := by
  obtain ⟨x1, x2, x3, x4, x5, x6, x7, x8, x9, x10, x11, x12, x13⟩ := idxW t
  refine ⟨?_, ?_, ?_, ?_, ?_, ?_, ?_, ?_, ?_, ?_, ?_, ?_, ?_⟩ <;> funext i <;> idx_vars i
  · blk_ext [iblk, x1]
  · blk_ext [iblk, x2]
  · blk_ext [iblk, x3]
  · blk_ext [iblk, x4]
  · blk_ext [iblk, x5]
  · blk_ext [iblk, x6]
  · blk_ext [iblk, x7]
  · blk_ext [iblk, x8]
  · blk_ext [iblk, x9]
  · blk_ext [iblk, x10]
  · blk_ext [iblk, x11]
  · blk_ext [iblk, x12]
  · blk_ext [iblk, x13]

/-- The weights' blocks are the weights. -/
theorem prm_up (h : Args m c N Y Rm) (t : Fin cfg0.N) : prm m c t = prmOf N Rm := by
  obtain ⟨x1, x2, x3, x4, x5, x6, x7, x8, x9, x10, x11, x12, x13⟩ := blk_w (m := m) (c := c) t
  obtain ⟨v0, v1, v2, v3, v4, v5⟩ := V_bias h
  exact prm_ext (x1.trans ((V_main_arg1 m c).trans h.We1)) (x2.trans v0) (x3.trans ((V_main_arg3 m c).trans h.We2)) (x4.trans v1)
    (x5.trans ((V_main_arg5 m c).trans h.Wt1)) (x6.trans v2) (x7.trans ((V_main_arg7 m c).trans h.Wt2)) (x8.trans v3)
    (x9.trans ((V_main_arg9 m c).trans h.Wd1)) (x10.trans v4) (x11.trans ((V_main_arg11 m c).trans h.Wd2)) (x12.trans v5)
    (x13.trans ((V_main_arg14 m c).trans h.R))

/-- The inverse of the covariance, as a matrix. -/
def Sinv (Rm : Fin 3 → Fin 3 → ℝ) : Matrix (Fin 3) (Fin 3) ℝ := Elim.inv (cov Rm)

/-- The observations' block of a point. -/
theorem yBlk_up (h : Args m c N Y Rm) (t : Fin cfg0.N) : yBlk m c t = upM (blk (seq Y) (2048 * t.val)) := by
  have ht : t.val < 256 := Nat.lt_of_lt_of_eq t.isLt N_0
  funext i
  idx_vars i
  refine Eq.trans (b := m ((c : Thread nD τ).loc main_arg0) (ix2 ⟨2048 * t.val + i0.val, by omega⟩ i1)) ?_ ?_
  · blk_ext [iblk, V, idx0 t]
  · rw [h.y]
    show ((Y ⟨2048 * t.val + i0.val, _⟩ i1 : ℝ) : EReal) = ((seq Y (2048 * t.val + i0.val) i1 : ℝ) : EReal)
    rw [seq_of_lt Y (by omega)]

/-- The row and the loss before point `n` are the model's before observation `2048 n`. -/
theorem carried_up (h : Args m c N Y Rm) (hd : Elim.det3 (cov Rm) ≠ 0) : ∀ (n : ℕ) (hn : n ≤ cfg0.N), carried m c n hn
    = (rowOf N (seq Y) (2048 * n), upM (rows 1 fun _ : Fin 1 => ls N (Sinv Rm) (seq Y) (2048 * n)))
  | 0, _ => by
    unfold carried
    rw [prm_up h]
    refine Prod.ext ?_ ?_ <;> funext i <;> idx_vars i
    · pointwise [k0_pay34, k0_pay31, prmOf, rowOf, upM, hT_zero, relu]
      exact coe_relu _
    · pointwise [k0_pay35, upM]
      rfl
  | n + 1, hn => by
    unfold carried
    rw [carried_up h hd n (Nat.le_of_lt hn), prm_up h, yBlk_up h]
    refine Prod.ext ?_ ?_
    · exact carry_up (seq Y) (2048 * n)
    · show Prm.acc _ _ _ _ = _
      unfold Prm.acc
      rw [innov_up, acc_up _ _ _ (sq_up hd _)]
      refine Eq.trans ?_ (congrArg (fun l => upM (rows 1 fun _ : Fin 1 => l)) (ls_add N (Sinv Rm) (seq Y) (2048 * n) 2048).symm)
      refine congrArg (fun l => upM (rows 1 fun _ : Fin 1 => l)) (congrArg _ ?_)
      exact Finset.sum_congr rfl fun r _ => Finset.sum_congr rfl fun j _ => mul_comm _ _

/-- The latents' array after the run. -/
theorem out_lat (h : Args m c N Y Rm) (hd : Elim.det3 (cov Rm) ≠ 0) :
    (dats m 0 c).arrAt 15 cfg0.N = upM fun r : Fin 524288 => st N (seq Y) (r.val + 1) := by
  refine (dats m 0 c).arrAt_eq_of_covers 15 _ (by decide +kernel) fun t hf y => ?_
  blk_simp
  rw [aft15, prm_up h, yBlk_up h, rowIn, carried_up h hd, lat_up]
  idx_vars y
  show ((st N (seq Y) (2048 * t.val + y0.val + 1) y1 : ℝ) : EReal) = ((st N (seq Y) ((((win0_15.blk t).view.emb (ix2 y0 y1)) 0 : ℕ) + 1)
    (((win0_15.blk t).view.emb (ix2 y0 y1)) 1) : ℝ) : EReal)
  have e0 : (((win0_15.blk t).view.emb (ix2 y0 y1)) 0 : ℕ) = 2048 * t.val + y0.val := by blk_simp [idx15 t]; omega
  have e1 : ((win0_15.blk t).view.emb (ix2 y0 y1)) 1 = y1 := by apply Fin.ext; blk_simp [idx15 t]
  rw [e0, e1]

/-- The loss's array after the run. -/
theorem out_loss (h : Args m c N Y Rm) (hd : Elim.det3 (cov Rm) ≠ 0) :
    (dats m 0 c).arrAt 14 cfg0.N = upM (rows 1 fun _ : Fin 1 => ls N (Sinv Rm) (seq Y) 524288 / 524288) := by
  refine (dats m 0 c).arrAt_eq_of_covers 14 _ (by decide +kernel) fun t hf y => ?_
  have ht : t.val = 255 := by
    have h1 := (flush0_14 t).1 hf
    have h2 : t.val < 256 := Nat.lt_of_lt_of_eq t.isLt N_0
    omega
  have hc : (carried m c (t.val + 1) t.isLt).2 = _ := congrArg Prod.snd (carried_up h hd (t.val + 1) t.isLt)
  blk_simp
  rw [aft14, ← show (carried m c (t.val + 1) t.isLt).2 = (prm m c t).acc (yBlk m c t) (rowIn m c t) (lossIn m c t) from rfl, hc, ht]
  idx_vars y
  pointwise [k0_pay2, upM]
  rw [ofBits_rec, ← EReal.coe_mul]
  refine congrArg _ ?_
  show ls N (Sinv Rm) (seq Y) 524288 * (1 / 524288) = ls N (Sinv Rm) (seq Y) 524288 / 524288
  ring

end Cert.KernelIdeal.Hand

end
-- ==== Proof.RefRows.lean ====
/-
  The reference's elimination, operation by operation, on rows of real numbers.
-/
module

public import proofs.«01_k».proof.Proof.Gen.ReferenceIdeal.Run
public import proofs.«01_k».proof.Proof.Lift
public import proofs.«01_k».proof.Proof.Elim
public import Idealize.ShloMosaic.Lib.Tactic.CleanTypes
public import Mathlib.Tactic.DefEqTransformations

@[expose] public section

set_option maxRecDepth 16384

noncomputable section

namespace Cert.ReferenceIdeal.Hand

open Idealize.ShloMosaic Idealize.ShloMosaic.TcCoe Idealize.ShloMosaic.StableHlo Idealize.SL.Sem
open Cert.ReferenceIdeal Cert.ReferenceIdeal.Gen Cert.ReferenceIdeal.Value Cert.Lift Cert.Elim

variable (a b p : Fin 6 → ℝ) (x y : ℝ)

/-- An entry of a row. -/
theorem entry_up (k : ℕ) (hk : k < 6) (h : S6.Slices ![k] S1) :
    (shapeCast S_ (extractStridedSlice S1 ![k] (upV a : FVec Ideal S6 .f32) h) shapeCasts_S1_S_ : FVec Ideal S_ .f32)
      = upS (a ⟨k, hk⟩) := by
  funext i
  pointwise [upV, upS]

/-- A row over a number. -/
theorem over_up (hx : x ≠ 0) : (Host.divf (upV a) (broadcastInDim S6 ![] bcast_S_S6 (upS x)) : FVec Ideal S6 .f32)
    = upV fun j => a j / x := by
  funext i
  idx_vars i
  pointwise [upV, upS]
  exact coe_div _ _ hx

/-- A row less a multiple of another. -/
theorem less_up : (subf (upV a) (mulf (broadcastInDim S6 ![] bcast_S_S6 (upS x)) (upV p)) : FVec Ideal S6 .f32)
    = upV fun j => a j - x * p j := by
  funext i
  idx_vars i
  pointwise [upV, upS]
  rw [EReal.coe_sub, EReal.coe_mul]

/-- A row over its own entry. -/
theorem unit_up (k : Fin 6) (h : a k ≠ 0) :
    (Host.divf (upV a) (broadcastInDim S6 ![] bcast_S_S6 (upS (a k))) : FVec Ideal S6 .f32) = upV (unit k a) :=
  over_up a (a k) h

/-- A row less the multiple of a pivot's row. -/
theorem clear_up (k : Fin 6) :
    (subf (upV a) (mulf (broadcastInDim S6 ![] bcast_S_S6 (upS (a k))) (upV p)) : FVec Ideal S6 .f32) = upV (clear k p a) :=
  less_up a p (a k)

/-- Its first entry. -/
theorem entry0 : (shapeCast S_ (extractStridedSlice S1 ![0] (upV a : FVec Ideal S6 .f32) slices_S6_S1_0) shapeCasts_S1_S_ : FVec Ideal S_ .f32)
    = upS (a 0) := entry_up a 0 (by decide) _
/-- Its second. -/
theorem entry1 : (shapeCast S_ (extractStridedSlice S1 ![1] (upV a : FVec Ideal S6 .f32) slices_S6_S1_1) shapeCasts_S1_S_ : FVec Ideal S_ .f32)
    = upS (a 1) := entry_up a 1 (by decide) _
/-- Its third. -/
theorem entry2 : (shapeCast S_ (extractStridedSlice S1 ![2] (upV a : FVec Ideal S6 .f32) slices_S6_S1_2) shapeCasts_S1_S_ : FVec Ideal S_ .f32)
    = upS (a 2) := entry_up a 2 (by decide) _

/-- The comparison of two sizes. -/
theorem more_up : (cmpf .ogt (Host.absf (upS x)) (Host.absf (upS y)) : IVec S_ 1) = fun _ => if |y| < |x| then 1#1 else 0#1 := by
  funext i
  pointwise [upS]
  show BitVec.ofBool (decide (max ((y : ℝ) : EReal) (-((y : ℝ) : EReal)) < max ((x : ℝ) : EReal) (-((x : ℝ) : EReal)))) = _
  simp only [coe_abs, EReal.coe_lt_coe_iff]
  by_cases h : |y| < |x|
  · rw [decide_eq_true h, if_pos h]; rfl
  · rw [decide_eq_false h, if_neg h]; rfl

/-- One of two rows. -/
theorem sel_up (c : Prop) [Decidable c] :
    (select (broadcastInDim S6 ![] bcast_S_S6 (fun _ : S_.Idx => if c then 1#1 else 0#1)) (upV a) (upV b) : FVec Ideal S6 .f32)
      = upV (if c then a else b) := by
  funext i
  idx_vars i
  by_cases h : c
  · simp only [h, if_true]
    pointwise [upV]
  · simp only [h, if_false]
    pointwise [upV]

/-- The rows the elimination starts from: a matrix beside the unit matrix. -/
def row0 (s : Fin 3 → Fin 3 → ℝ) (i : Fin 3) : Fin 6 → ℝ :=
  fun j => if h : j.val < 3 then s i ⟨j.val, h⟩ else if i.val = j.val - 3 then 1 else 0

/-- An entry of the unit matrix, as the comparison of two numbers' words. -/
theorem unit_entry (i n : ℕ) (hi : i < 3) (hn : n < 3) :
    (FloatOps.uitofp .f32 (IntOp.cmpi .eq (IntOp.addi (BitVec.ofNat 32 i) 0#32) (BitVec.ofNat 32 n)) : Ideal .f32)
      = ((if i = n then 1 else 0 : ℝ) : EReal) := by
  have h : IntOp.cmpi .eq (IntOp.addi (BitVec.ofNat 32 i) 0#32) (BitVec.ofNat 32 n) = if i = n then 1#1 else 0#1 := by
    interval_cases i <;> interval_cases n <;> rfl
  rw [h]
  split
  · show (((1 : ℕ) : ℝ) : EReal) = _
    rw [Nat.cast_one]
  · show (((0 : ℕ) : ℝ) : EReal) = _
    rw [Nat.cast_zero]

/-- An entry of the matrix with its diagonal raised. -/
theorem cov_entry (s : Fin 3 → Fin 3 → ℝ) (i j : Fin 3) :
    ((s i j : ℝ) : EReal) + Ideal.ofBits .f32 0x3727C5AC#32 * ((if i.val = j.val then 1 else 0 : ℝ) : EReal)
      = ((cov s i j : ℝ) : EReal) := by
  rw [ofBits_eps, ← EReal.coe_mul, ← EReal.coe_add]
  unfold cov
  by_cases h : i = j
  · rw [if_pos (congrArg Fin.val h), if_pos h, mul_one]
  · rw [if_neg fun e => h (Fin.ext e), if_neg h, mul_zero, add_zero]

variable {a b p} (V : Valuation τ sig (Elt Ideal)) (Rm : Fin 3 → Fin 3 → ℝ)

/-- An entry of a first row as the operations build it. -/
theorem row_entry (i : Fin 3) (j : Fin 6) :
    (if h : j.val < 3 then ((Rm i ⟨j.val, h⟩ : ℝ) : EReal) + Ideal.ofBits .f32 0x3727C5AC#32
        * (FloatOps.uitofp .f32 (IntOp.cmpi .eq (IntOp.addi (BitVec.ofNat 32 i.val) 0#32) (BitVec.ofNat 32 j.val)) : Ideal .f32)
      else (FloatOps.uitofp .f32 (IntOp.cmpi .eq (IntOp.addi (BitVec.ofNat 32 i.val) 0#32) (BitVec.ofNat 32 (j.val - 3))) : Ideal .f32))
      = ((row0 (cov Rm) i j : ℝ) : EReal) := by
  unfold row0
  by_cases h : j.val < 3
  · rw [dif_pos h, dif_pos h, unit_entry _ _ i.isLt h]
    exact cov_entry Rm i ⟨j.val, h⟩
  · rw [dif_neg h, dif_neg h, unit_entry _ _ i.isLt (by omega)]

/-- The rows as the first stretch leaves them. -/
theorem w0_v19 (h : V (Proc.devRef .tc main_arg14) = upM Rm) :
    after hostOps0 V (Proc.devRef .tc main_v19) = upV (row0 (cov Rm) 0) := by
  after_results
  rw [h]
  clean_types
  funext j
  idx_vars j
  pointwise [upM, upV]
  exact row_entry Rm 0 j0

/-- The second row. -/
theorem w0_v24 (h : V (Proc.devRef .tc main_arg14) = upM Rm) :
    after hostOps0 V (Proc.devRef .tc main_v24) = upV (row0 (cov Rm) 1) := by
  after_results
  rw [h]
  clean_types
  funext j
  idx_vars j
  pointwise [upM, upV]
  exact row_entry Rm 1 j0

/-- The third row. -/
theorem w0_v29 (h : V (Proc.devRef .tc main_arg14) = upM Rm) :
    after hostOps0 V (Proc.devRef .tc main_v29) = upV (row0 (cov Rm) 2) := by
  after_results
  rw [h]
  clean_types
  funext j
  idx_vars j
  pointwise [upM, upV]
  exact row_entry Rm 2 j0

/-- The first exchange's condition. -/
theorem w0_v36 (h : V (Proc.devRef .tc main_arg14) = upM Rm) :
    after hostOps0 V (Proc.devRef .tc main_v36)
      = fun _ => if |row0 (cov Rm) 0 0| < |row0 (cov Rm) 1 0| then 1#1 else 0#1 := by
  refine Eq.trans (b := cmpf .ogt (Host.absf (upS (row0 (cov Rm) 1 0))) (Host.absf (upS (row0 (cov Rm) 0 0)))) ?_ (more_up _ _)
  after_results
  rw [h]
  clean_types
  refine congrArg₂ (fun u v : FVec Ideal S_ .f32 => cmpf .ogt (Host.absf u) (Host.absf v)) ?_ ?_
  · funext i
    pointwise [upM, upS]
    exact row_entry Rm 1 0
  · funext i
    pointwise [upM, upS]
    exact row_entry Rm 0 0

/-- The larger row of the first exchange. -/
theorem w1 (c : Prop) [Decidable c] (hc : V (Proc.devRef .tc main_v36) = fun _ => if c then 1#1 else 0#1)
    (ha : V (Proc.devRef .tc main_v24) = upV a) (hb : V (Proc.devRef .tc main_v19) = upV b) :
    after hostOps0_1 V (Proc.devRef .tc main_v37) = upV (if c then a else b) := by
  after_results
  rw [hc, ha, hb]
  exact sel_up _ _ _

/-- The lower of them. -/
theorem w2 (c : Prop) [Decidable c] (hc : V (Proc.devRef .tc main_v36) = fun _ => if c then 1#1 else 0#1)
    (ha : V (Proc.devRef .tc main_v19) = upV a) (hb : V (Proc.devRef .tc main_v24) = upV b) :
    after hostOps0_2 V (Proc.devRef .tc main_v38) = upV (if c then a else b) := by
  after_results
  rw [hc, ha, hb]
  exact sel_up _ _ _

/-- The condition of the first column's second exchange. -/
theorem w3 (h29 : V (Proc.devRef .tc main_v29) = upV a) (h37 : V (Proc.devRef .tc main_v37) = upV b) :
    after hostOps0_3 V (Proc.devRef .tc main_v45) = fun _ => if |b 0| < |a 0| then 1#1 else 0#1 := by
  after_results
  rw [h29, h37]
  clean_types
  simp only [entry_up _ 0 (by decide)]
  exact more_up _ _

/-- The first pivot's row. -/
theorem w4 (c : Prop) [Decidable c] (hc : V (Proc.devRef .tc main_v45) = fun _ => if c then 1#1 else 0#1)
    (ha : V (Proc.devRef .tc main_v29) = upV a) (hb : V (Proc.devRef .tc main_v37) = upV b) :
    after hostOps0_4 V (Proc.devRef .tc main_v46) = upV (if c then a else b) := by
  after_results
  rw [hc, ha, hb]
  exact sel_up _ _ _

/-- The third row after that exchange. -/
theorem w5 (c : Prop) [Decidable c] (hc : V (Proc.devRef .tc main_v45) = fun _ => if c then 1#1 else 0#1)
    (ha : V (Proc.devRef .tc main_v37) = upV a) (hb : V (Proc.devRef .tc main_v29) = upV b) :
    after hostOps0_5 V (Proc.devRef .tc main_v47) = upV (if c then a else b) := by
  after_results
  rw [hc, ha, hb]
  exact sel_up _ _ _

/-- A row less the multiple of the first pivot's that clears its first entry. -/
theorem next_up (h0 : a 0 ≠ 0) :
    (subf (upV b) (mulf (broadcastInDim S6 ![] bcast_S_S6 (shapeCast S_ (extractStridedSlice S1 ![0] (upV b : FVec Ideal S6 .f32) slices_S6_S1_0) shapeCasts_S1_S_ : FVec Ideal S_ .f32))
      (Host.divf (upV a) (broadcastInDim S6 ![] bcast_S_S6 (shapeCast S_ (extractStridedSlice S1 ![0] (upV a : FVec Ideal S6 .f32) slices_S6_S1_0) shapeCasts_S1_S_ : FVec Ideal S_ .f32)))) : FVec Ideal S6 .f32)
      = upV (clear 0 (unit 0 a) b) := by
  rw [entry0, entry0, unit_up a 0 h0, clear_up]

/-- Two rows' second entries compared. -/
theorem more1_up : cmpf .ogt (Host.absf (shapeCast S_ (extractStridedSlice S1 ![1] (upV a : FVec Ideal S6 .f32) slices_S6_S1_1) shapeCasts_S1_S_ : FVec Ideal S_ .f32))
      (Host.absf (shapeCast S_ (extractStridedSlice S1 ![1] (upV b : FVec Ideal S6 .f32) slices_S6_S1_1) shapeCasts_S1_S_ : FVec Ideal S_ .f32))
    = fun _ => if |b 1| < |a 1| then 1#1 else 0#1 := by
  rw [entry1, entry1]
  exact more_up _ _

/-- Two cleared rows' second entries compared. -/
theorem next_more (h0 : a 0 ≠ 0) :
    cmpf .ogt (Host.absf (shapeCast S_ (extractStridedSlice S1 ![1]
        (subf (upV p) (mulf (broadcastInDim S6 ![] bcast_S_S6 (shapeCast S_ (extractStridedSlice S1 ![0] (upV p : FVec Ideal S6 .f32) slices_S6_S1_0) shapeCasts_S1_S_ : FVec Ideal S_ .f32))
          (Host.divf (upV a) (broadcastInDim S6 ![] bcast_S_S6 (shapeCast S_ (extractStridedSlice S1 ![0] (upV a : FVec Ideal S6 .f32) slices_S6_S1_0) shapeCasts_S1_S_ : FVec Ideal S_ .f32)))) : FVec Ideal S6 .f32)
        slices_S6_S1_1) shapeCasts_S1_S_ : FVec Ideal S_ .f32))
      (Host.absf (shapeCast S_ (extractStridedSlice S1 ![1]
        (subf (upV b) (mulf (broadcastInDim S6 ![] bcast_S_S6 (shapeCast S_ (extractStridedSlice S1 ![0] (upV b : FVec Ideal S6 .f32) slices_S6_S1_0) shapeCasts_S1_S_ : FVec Ideal S_ .f32))
          (Host.divf (upV a) (broadcastInDim S6 ![] bcast_S_S6 (shapeCast S_ (extractStridedSlice S1 ![0] (upV a : FVec Ideal S6 .f32) slices_S6_S1_0) shapeCasts_S1_S_ : FVec Ideal S_ .f32)))) : FVec Ideal S6 .f32)
        slices_S6_S1_1) shapeCasts_S1_S_ : FVec Ideal S_ .f32))
    = fun _ => if |clear 0 (unit 0 a) b 1| < |clear 0 (unit 0 a) p 1| then 1#1 else 0#1 := by
  rw [next_up h0, next_up h0]
  exact more1_up

/-- The first column cleared. -/
theorem w6_v51 (ha : V (Proc.devRef .tc main_v46) = upV a) (h0 : a 0 ≠ 0) :
    after hostOps0_6 V (Proc.devRef .tc main_v51) = upV (unit 0 a) := by
  after_results
  rw [ha]
  clean_types
  simp only [entry_up _ 0 (by decide)]
  exact over_up _ _ h0

/-- The second row, its first entry cleared. -/
theorem w6_v56 (ha : V (Proc.devRef .tc main_v46) = upV a) (h0 : a 0 ≠ 0) (hb : V (Proc.devRef .tc main_v38) = upV b) :
    after hostOps0_6 V (Proc.devRef .tc main_v56) = upV (clear 0 (unit 0 a) b) := by
  after_results
  rw [ha, hb]
  clean_types
  exact next_up h0

/-- The third row, its first entry cleared. -/
theorem w6_v61 (ha : V (Proc.devRef .tc main_v46) = upV a) (h0 : a 0 ≠ 0) (hb : V (Proc.devRef .tc main_v47) = upV b) :
    after hostOps0_6 V (Proc.devRef .tc main_v61) = upV (clear 0 (unit 0 a) b) := by
  after_results
  rw [ha, hb]
  clean_types
  exact next_up h0

/-- The second exchange's condition. -/
theorem w6_v68 (ha : V (Proc.devRef .tc main_v46) = upV a) (h0 : a 0 ≠ 0) (hb : V (Proc.devRef .tc main_v38) = upV b)
    (hp : V (Proc.devRef .tc main_v47) = upV p) :
    after hostOps0_6 V (Proc.devRef .tc main_v68)
      = fun _ => if |clear 0 (unit 0 a) b 1| < |clear 0 (unit 0 a) p 1| then 1#1 else 0#1 := by
  after_results
  rw [ha, hb, hp]
  clean_types
  exact next_more h0

/-- The second pivot's row. -/
theorem w7 (c : Prop) [Decidable c] (hc : V (Proc.devRef .tc main_v68) = fun _ => if c then 1#1 else 0#1)
    (ha : V (Proc.devRef .tc main_v61) = upV a) (hb : V (Proc.devRef .tc main_v56) = upV b) :
    after hostOps0_7 V (Proc.devRef .tc main_v69) = upV (if c then a else b) := by
  after_results
  rw [hc, ha, hb]
  exact sel_up _ _ _

/-- The third row after the second exchange. -/
theorem w8 (c : Prop) [Decidable c] (hc : V (Proc.devRef .tc main_v68) = fun _ => if c then 1#1 else 0#1)
    (ha : V (Proc.devRef .tc main_v56) = upV a) (hb : V (Proc.devRef .tc main_v61) = upV b) :
    after hostOps0_8 V (Proc.devRef .tc main_v70) = upV (if c then a else b) := by
  after_results
  rw [hc, ha, hb]
  exact sel_up _ _ _

/-- The right halves of three rows, one below the other. -/
theorem stack_up (r s t : Fin 6 → ℝ) (S : Fin 3 → Fin 3 → ℝ)
    (h : ∀ j : Fin 3, r ⟨3 + j.val, by omega⟩ = S 0 j ∧ s ⟨3 + j.val, by omega⟩ = S 1 j ∧ t ⟨3 + j.val, by omega⟩ = S 2 j) :
    (concatenate S3x3 0 [⟨S1x3, broadcastInDim S1x3 ![1] bcast_S3_S1x3_1 (extractStridedSlice S3 ![3] (upV r : FVec Ideal S6 .f32) slices_S6_S3_3)⟩,
      ⟨S1x3, broadcastInDim S1x3 ![1] bcast_S3_S1x3_1 (extractStridedSlice S3 ![3] (upV s : FVec Ideal S6 .f32) slices_S6_S3_3)⟩,
      ⟨S1x3, broadcastInDim S1x3 ![1] bcast_S3_S1x3_1 (extractStridedSlice S3 ![3] (upV t : FVec Ideal S6 .f32) slices_S6_S3_3)⟩]
      concatenates_S1x3_S1x3_S1x3_S3x3_d0 : FVec Ideal S3x3 .f32) = upM S := by
  funext i
  idx_vars i
  obtain ⟨hr, hs, ht⟩ := h i1
  match i0 with
  | 0 => pointwise [upM, upV]; exact congrArg _ hr
  | 1 => pointwise [upM, upV]; exact congrArg _ hs
  | 2 => pointwise [upM, upV]; exact congrArg _ ht

/-- A row over its second, over its third entry, and a row less the multiples of a pivot's. -/
abbrev over1 (x : FVec Ideal S6 .f32) : FVec Ideal S6 .f32 :=
  Host.divf x (broadcastInDim S6 ![] bcast_S_S6 (shapeCast S_ (extractStridedSlice S1 ![1] x slices_S6_S1_1) shapeCasts_S1_S_ : FVec Ideal S_ .f32))
abbrev over2 (x : FVec Ideal S6 .f32) : FVec Ideal S6 .f32 :=
  Host.divf x (broadcastInDim S6 ![] bcast_S_S6 (shapeCast S_ (extractStridedSlice S1 ![2] x slices_S6_S1_2) shapeCasts_S1_S_ : FVec Ideal S_ .f32))
abbrev less1 (x u : FVec Ideal S6 .f32) : FVec Ideal S6 .f32 :=
  subf x (mulf (broadcastInDim S6 ![] bcast_S_S6 (shapeCast S_ (extractStridedSlice S1 ![1] x slices_S6_S1_1) shapeCasts_S1_S_ : FVec Ideal S_ .f32)) u)
abbrev less2 (x u : FVec Ideal S6 .f32) : FVec Ideal S6 .f32 :=
  subf x (mulf (broadcastInDim S6 ![] bcast_S_S6 (shapeCast S_ (extractStridedSlice S1 ![2] x slices_S6_S1_2) shapeCasts_S1_S_ : FVec Ideal S_ .f32)) u)

/-- A row over its second entry. -/
theorem over1_up (h : a 1 ≠ 0) : over1 (upV a) = upV (unit 1 a) := by rw [over1, entry1, unit_up a 1 h]
/-- A row over its third. -/
theorem over2_up (h : a 2 ≠ 0) : over2 (upV a) = upV (unit 2 a) := by rw [over2, entry2, unit_up a 2 h]
/-- A row, its second entry cleared. -/
theorem less1_up : less1 (upV a) (upV p) = upV (clear 1 p a) := by rw [less1, entry1, clear_up]
/-- A row, its third entry cleared. -/
theorem less2_up : less2 (upV a) (upV p) = upV (clear 2 p a) := by rw [less2, entry2, clear_up]

abbrev under (r s t : FVec Ideal S6 .f32) : FVec Ideal S3x3 .f32 :=
  concatenate S3x3 0 [⟨S1x3, broadcastInDim S1x3 ![1] bcast_S3_S1x3_1 (extractStridedSlice S3 ![3] r slices_S6_S3_3)⟩,
      ⟨S1x3, broadcastInDim S1x3 ![1] bcast_S3_S1x3_1 (extractStridedSlice S3 ![3] s slices_S6_S3_3)⟩,
      ⟨S1x3, broadcastInDim S1x3 ![1] bcast_S3_S1x3_1 (extractStridedSlice S3 ![3] t slices_S6_S3_3)⟩]
      concatenates_S1x3_S1x3_S1x3_S3x3_d0

/-- The elimination's last column over any three rows. -/
theorem last_up (h1 : a 1 ≠ 0) (h2 : clear 1 (unit 1 a) p 2 ≠ 0) (S : Fin 3 → Fin 3 → ℝ)
    (hS : ∀ j : Fin 3, clear 2 (unit 2 (clear 1 (unit 1 a) p)) (clear 1 (unit 1 a) b) ⟨3 + j.val, by omega⟩ = S 0 j
      ∧ clear 2 (unit 2 (clear 1 (unit 1 a) p)) (unit 1 a) ⟨3 + j.val, by omega⟩ = S 1 j
      ∧ unit 2 (clear 1 (unit 1 a) p) ⟨3 + j.val, by omega⟩ = S 2 j) :
    under (less2 (less1 (upV b) (over1 (upV a))) (over2 (less1 (upV p) (over1 (upV a)))))
      (less2 (over1 (upV a)) (over2 (less1 (upV p) (over1 (upV a))))) (over2 (less1 (upV p) (over1 (upV a)))) = upM S := by
  rw [over1_up h1, less1_up, less1_up, over2_up h2, less2_up, less2_up]
  exact stack_up _ _ _ S hS

/-- The elimination ended: the inverse as the loop carries it. -/
theorem w9_inv (ha : V (Proc.devRef .tc main_v69) = upV a) (h1 : a 1 ≠ 0) (hb : V (Proc.devRef .tc main_v51) = upV b)
    (hp : V (Proc.devRef .tc main_v70) = upV p) (h2 : clear 1 (unit 1 a) p 2 ≠ 0) (S : Fin 3 → Fin 3 → ℝ)
    (hS : ∀ j : Fin 3, clear 2 (unit 2 (clear 1 (unit 1 a) p)) (clear 1 (unit 1 a) b) ⟨3 + j.val, by omega⟩ = S 0 j
      ∧ clear 2 (unit 2 (clear 1 (unit 1 a) p)) (unit 1 a) ⟨3 + j.val, by omega⟩ = S 1 j
      ∧ unit 2 (clear 1 (unit 1 a) p) ⟨3 + j.val, by omega⟩ = S 2 j) :
    after hostOps0_9 V (Proc.devRef .tc main_v108_9) = upM S := by
  after_reads_simp
  show (concatenate S3x3 0 [⟨S1x3, (after (hostOps0_9.take 34) V (Proc.devRef .tc main_v102) : FVec Ideal S1x3 .f32)⟩,
    ⟨S1x3, (after (hostOps0_9.take 34) V (Proc.devRef .tc main_v103) : FVec Ideal S1x3 .f32)⟩,
    ⟨S1x3, (after (hostOps0_9.take 34) V (Proc.devRef .tc main_v104) : FVec Ideal S1x3 .f32)⟩] _ : FVec Ideal S3x3 .f32) = _
  simp only [hostOps0_9, List.take_succ_cons, List.take_zero]
  after_results
  rw [ha, hb, hp]
  clean_types
  exact last_up h1 h2 S hS

end Cert.ReferenceIdeal.Hand

end
-- ==== Proof.Regular.lean ====
/-
  The algebraic claim's precondition read back: every argument it names is an array of real numbers and the raised
  covariance has a determinant that is not zero.
-/
module

public import proofs.«01_k».proof.Defs
public import proofs.«01_k».proof.Proof.KerVal
public import proofs.«01_k».proof.Proof.RefRows
public import Idealize.ShloMosaic.Lib.Tactic.CleanTypes

@[expose] public section

set_option maxRecDepth 16384

noncomputable section

namespace Cert.Regular

open Idealize.ShloMosaic Cert.Lift Cert.Elim Cert.Model

/-- The shape relations the precondition's operations take. -/
instance facts : Cert.Pre_regular.Facts where
  bcast_S_S3x3 := by decide
  slices_S3x3_S1x1_0_0 := by decide
  shapeCasts_S1x1_S_ := by decide
  slices_S3x3_S1x1_1_1 := by decide
  slices_S3x3_S1x1_2_2 := by decide
  slices_S3x3_S1x1_1_2 := by decide
  slices_S3x3_S1x1_2_1 := by decide
  slices_S3x3_S1x1_0_1 := by decide
  slices_S3x3_S1x1_1_0 := by decide
  slices_S3x3_S1x1_2_0 := by decide
  slices_S3x3_S1x1_0_2 := by decide
  bcast_S_S524288x3 := by decide
  bcast_S_S3x32 := by decide
  bcast_S_S32 := by decide
  bcast_S_S32x6 := by decide
  bcast_S_S6 := by decide
  bcast_S_S6x32 := by decide
  bcast_S_S32x3 := by decide
  bcast_S_S3 := by decide

/-- An array the precondition finds finite has finite elements. -/
theorem below {S : Shape} {v : FVec Ideal S .f32} {hb : (⟨0, ![]⟩ : Shape).BroadcastsInDim S (![] : Fin 0 → Fin S.rank)}
    (h : cmpf .olt (Host.absf v) (broadcastInDim S ![] hb (constant ⟨0, ![]⟩ .f32 0x7F800000#32)) = fun _ => 1#1) (i : S.Idx) :
    max (v i : EReal) (-(v i : EReal)) < ⊤ := by
  have e := congrFun h i
  change BitVec.ofBool (decide (max (v i : EReal) (-(v i : EReal)) < Ideal.ofBits .f32 0x7F800000#32)) = 1#1 at e
  rw [ofBits_inf] at e
  by_contra hn
  rw [decide_eq_false hn] at e
  exact absurd e (by decide)

/-- An entry of the raised covariance, its unit matrix made of compared indices. -/
theorem entry (Rm : Fin 3 → Fin 3 → ℝ) (i j : Fin 3) :
    ((Rm i j : ℝ) : EReal) + Ideal.ofBits .f32 0x3727C5AC#32
        * (FloatOps.uitofp .f32 (IntOp.cmpi .eq (IntOp.addi (BitVec.ofNat 32 i.val) 0#32) (BitVec.ofNat 32 j.val)) : Ideal .f32)
      = ((cov Rm i j : ℝ) : EReal) := by
  rw [Cert.ReferenceIdeal.Hand.unit_entry _ _ i.isLt j.isLt]
  exact Cert.ReferenceIdeal.Hand.cov_entry Rm i j

open Cert.Pre_regular in
/-- The precondition's determinant is compared with zero. -/
theorem det_val (a0 : FVec Ideal S524288x3 .f32) (a1 : FVec Ideal S3x32 .f32) (a2 : FVec Ideal S32 .f32) (a3 : FVec Ideal S32x6 .f32)
    (a4 : FVec Ideal S6 .f32) (a5 : FVec Ideal S6x32 .f32) (a6 : FVec Ideal S32 .f32) (a7 : FVec Ideal S32x6 .f32) (a8 : FVec Ideal S6 .f32)
    (a9 : FVec Ideal S6x32 .f32) (a10 : FVec Ideal S32 .f32) (a11 : FVec Ideal S32x3 .f32) (a12 : FVec Ideal S3 .f32)
    (a13 : FVec Ideal S6x6 .f32) (Rm : Fin 3 → Fin 3 → ℝ) :
    (fn a0 a1 a2 a3 a4 a5 a6 a7 a8 a9 a10 a11 a12 a13 (upM Rm)).2.2.2.2.2.2.2.2.2.2.2.2.2.2
      = fun _ => BitVec.ofBool (decide (((det3 (cov Rm) : ℝ) : EReal) ≠ 0)) := by
  funext i
  unfold fn fn_part1 fn_part2 fn_part3 fn_part4
  dsimp only
  pointwise [upM]
  have c00 := entry Rm 0 0
  have c01 := entry Rm 0 1
  have c02 := entry Rm 0 2
  have c10 := entry Rm 1 0
  have c11 := entry Rm 1 1
  have c12 := entry Rm 1 2
  have c20 := entry Rm 2 0
  have c21 := entry Rm 2 1
  have c22 := entry Rm 2 2
  simp only [Fin.val_zero, Fin.val_one, Fin.val_two] at c00 c01 c02 c10 c11 c12 c20 c21 c22
  rw [c00, c01, c02, c10, c11, c12, c20, c21, c22]
  simp only [← EReal.coe_mul, ← EReal.coe_sub, ← EReal.coe_add]
  rfl

open Cert.KernelIdeal in
/-- What the precondition says of the kernel's arguments. -/
theorem args {m : (ℓ : Loc nD τ sig) → Buf (Elt Ideal) ℓ} (h : Cert.Pre_KernelIdeal_regular m) (c : Dev nD) :
    ∃ (N : Net) (Y : Fin 524288 → Fin 3 → ℝ) (Rm : Fin 3 → Fin 3 → ℝ),
      Cert.KernelIdeal.Hand.Args m c N Y Rm ∧ det3 (cov Rm) ≠ 0 := by
  obtain ⟨f0, f1, f2, f3, f4, f5, f6, f7, f8, f9, f10, f11, f12, f14, fd⟩ := h c
  have R := up_dnM (below (v := m ((c.tc : Thread nD τ).loc main_arg14)) f14)
  refine ⟨⟨_, _, _, _, _, _, _, _, _, _, _, _⟩, _, _, ⟨up_dnM (below f0), up_dnM (below f1), up_dnV (below f2),
    up_dnM (below f3), up_dnV (below f4), up_dnM (below f5), up_dnV (below f6), up_dnM (below f7), up_dnV (below f8),
    up_dnM (below f9), up_dnV (below f10), up_dnM (below f11), up_dnV (below f12), R⟩, ?_⟩
  rw [R, det_val] at fd
  intro hz
  have e := congrFun fd (fun a => a.elim0)
  rw [hz] at e
  exact absurd e (by simp)

end Cert.Regular

end
-- ==== Proof.RefVal.lean ====
/-
  The reference's loop at finite contents: each trip is a step of the model over the real numbers.
-/
module

public import proofs.«01_k».proof.Proof.Gen.ReferenceIdeal.Run
public import proofs.«01_k».proof.Proof.Lift
public import Idealize.ShloMosaic.Lib.Tactic.CleanTypes
public import Idealize.ShloMosaic.Lib.DynamicIndex

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Value Cert.Lift Cert.Model Matrix

/-- The contents of a buffer among the carried. -/
local notation "Val" => Valuation τ sig (Elt Ideal)

/-- What the loop carries before trip `k`: the arguments, the inverse `S` of the covariance, and the model's state,
    loss and latents so far. -/
structure At (V : Val) (N : Net) (Y : Fin 524288 → Fin 3 → ℝ) (S : Matrix (Fin 3) (Fin 3) ℝ) (k : ℕ) : Prop where
  y : V (Proc.devRef .tc main_v108_0) = upM Y
  Wt1 : V (Proc.devRef .tc main_v108_1) = upM N.Wt1
  bt1 : V (Proc.devRef .tc main_v108_2) = upV N.bt1
  Wt2 : V (Proc.devRef .tc main_v108_3) = upM N.Wt2
  bt2 : V (Proc.devRef .tc main_v108_4) = upV N.bt2
  Wd1 : V (Proc.devRef .tc main_v108_5) = upM N.Wd1
  bd1 : V (Proc.devRef .tc main_v108_6) = upV N.bd1
  Wd2 : V (Proc.devRef .tc main_v108_7) = upM N.Wd2
  bd2 : V (Proc.devRef .tc main_v108_8) = upV N.bd2
  inv : V (Proc.devRef .tc main_v108_9) = upM S
  We1 : V (Proc.devRef .tc main_v108_10) = upM N.We1
  be1 : V (Proc.devRef .tc main_v108_11) = upV N.be1
  We2 : V (Proc.devRef .tc main_v108_12) = upM N.We2
  be2 : V (Proc.devRef .tc main_v108_13) = upV N.be2
  ctr : V (Proc.devRef .tc main_v108_14) = fun _ => BitVec.ofNat 32 k
  x : V (Proc.devRef .tc main_v108_15) = upV (st N (seq Y) k)
  loss : V (Proc.devRef .tc main_v108_16) = upS (ls N S (seq Y) k)
  lat : ∀ (i : Fin 524288) (j : Fin 6), i.val < k →
    V (Proc.devRef .tc main_v108_17) (ix2 i j) = ((st N (seq Y) (i.val + 1) j : ℝ) : EReal)

variable {V : Val} {N : Net} {Y : Fin 524288 → Fin 3 → ℝ} {S : Matrix (Fin 3) (Fin 3) ℝ} {k : ℕ}

/-- The predicted state. -/
theorem xp_up (h : At V N Y S k) : res_main_while0b_v116 V = upV (xp N (st N (seq Y) k)) := by
  unfold res_main_while0b_v116
  rw [h.x, h.Wt1, h.bt1, h.Wt2, h.bt2]
  clean_types
  funext i
  idx_vars i
  pointwise [upM, upV]
  simp only [coe_dot, ← EReal.coe_add, coe_relu]
  rfl

/-- Where a trip reads the observation and writes the latents: row `k`, read as signed words. -/
abbrev at0 (V : Val) : Fin 2 → Int := fun a => ((![V (Proc.devRef .tc main_v108_14), constantI S_ 32 0#32] :
  Fin 2 → (⟨S_, .i32⟩ : BufTy).Contents (Elt Ideal)) a (Shape.Idx.first h_S_)).toInt

/-- They are `k` and zero. -/
theorem at0_up (h : At V N Y S k) (hk : k < 524288) : at0 V = fun a => ((![k, 0] : Fin 2 → ℕ) a : Int) := by
  funext a
  match a with
  | 0 =>
    show (V (Proc.devRef .tc main_v108_14) (Shape.Idx.first h_S_)).toInt = (k : Int)
    rw [h.ctr]
    exact Idealize.ShloMosaic.toInt_ofNat_of_lt (k := k) (by omega)
  | 1 => rfl

/-- A row of the observations, cut at a start that is its number. -/
theorem slice_row (A : FVec Ideal S524288x3 .f32) (o : Fin 2 → Int) (hk : k < 524288)
    (ho : o = fun a => ((![k, 0] : Fin 2 → ℕ) a : Int)) (j : Fin 3) :
    (shapeCast S3 (Host.dynamicSlice S1x3 A o sliceFits_S524288x3_S1x3) shapeCasts_S1x3_S3 : FVec Ideal S3 .f32) (ix1 j)
      = A (ix2 ⟨k, hk⟩ j) := by
  have hs : S524288x3.Slices ![k, 0] S1x3 :=
    ⟨rfl, fun | 0 => (show k + 1 ≤ 524288 by omega) | 1 => (show 0 + 3 ≤ 3 from le_refl _)⟩
  rw [Host.dynamicSlice_eq_extractStridedSlice S1x3 A o ![k, 0] _ hs fun a => congrFun ho a]
  pointwise

/-- The latents with one row written, at an index. -/
theorem update_row (A : FVec Ideal S524288x6 .f32) (u : FVec Ideal S1x6 .f32) (o : Fin 2 → Int) (hk : k < 524288)
    (ho : o = fun a => ((![k, 0] : Fin 2 → ℕ) a : Int)) (i : Fin 524288) (j : Fin 6) :
    (Host.dynamicUpdateSlice A u o updateFits_S524288x6_S1x6 : FVec Ideal S524288x6 .f32) (ix2 i j)
      = if i.val = k then u (ix2 0 j) else A (ix2 i j) := by
  have hs : S524288x6.Slices ![k, 0] S1x6 :=
    ⟨rfl, fun | 0 => (show k + 1 ≤ 524288 by omega) | 1 => (show 0 + 6 ≤ 6 from le_refl _)⟩
  rw [Host.dynamicUpdateSlice_eq_updateSlice A u o _ ![k, 0] ?_ hs]
  · pointwise
    by_cases e : i.val = k
    · rw [dif_pos ⟨by omega, by omega⟩, if_pos e]
      exact congrArg u (congrArg (fun r : Fin 1 => ix2 r j) (Subsingleton.elim _ _))
    · rw [dif_neg (by omega), if_neg e]
  · intro a
    rw [ho]
    match a with
    | 0 => show (min (max (k : Int) 0) ((524288 - 1 : ℕ) : Int)).toNat = k; omega
    | 1 => rfl

/-- The observation's row. -/
theorem row_up (h : At V N Y S k) (hk : k < 524288) :
    shapeCast S3 (Host.dynamicSlice S1x3 (V (Proc.devRef .tc main_v108_0)) (at0 V) sliceFits_S524288x3_S1x3) shapeCasts_S1x3_S3
      = upV (seq Y k) := by
  rw [h.y]
  funext i
  idx_vars i
  refine (slice_row (upM Y) _ hk (at0_up h hk) i0).trans ?_
  rw [seq_of_lt Y hk]
  rfl

/-- The innovation. -/
theorem inn_up (h : At V N Y S k) (hk : k < 524288) :
    res_main_while0b_v122 V = upV (inn N (seq Y k) (st N (seq Y) k)) := by
  unfold res_main_while0b_v122
  rw [xp_up h, h.Wd1, h.bd1, h.Wd2, h.bd2]
  refine (congrArg (fun r : FVec Ideal S3 .f32 => subf r _) (row_up h hk)).trans ?_
  clean_types
  funext i
  idx_vars i
  pointwise [upM, upV]
  simp only [coe_dot, ← EReal.coe_add, ← EReal.coe_sub, coe_relu]
  rfl

/-- The next state. -/
theorem xn_up (h : At V N Y S k) (hk : k < 524288) : res_main_while0b_v132 V = upV (st N (seq Y) (k + 1)) := by
  unfold res_main_while0b_v132
  rw [xp_up h, inn_up h hk, h.We1, h.be1, h.We2, h.be2]
  clean_types
  funext i
  idx_vars i
  pointwise [upM, upV]
  simp only [coe_dot, ← EReal.coe_add, coe_relu]
  rfl

/-- A loss and the square an innovation adds to it. -/
theorem loss_row (l : ℝ) (z : Fin 3 → ℝ) (S : Fin 3 → Fin 3 → ℝ) :
    (addf (upS l) (Host.reduceAdd (mulf (Host.dotGeneral dot_S3_S3x3_S3_0_0_n_1_n_n none (upV z) (upM S)) (upV z))
      (constant S_ .f32 0x00000000#32) reducesTo_S3_S_d0 h_S_) : FVec Ideal S_ .f32)
      = upS (l + ∑ j, (∑ i, z i * S i j) * z j) := by
  funext i
  pointwise [upM, upV, upS]
  simp only [coe_dot, ← EReal.coe_mul, coe_sum]
  rw [EReal.coe_add]

/-- The next loss. -/
theorem loss_up (h : At V N Y S k) (hk : k < 524288) : step_main_v108_16 V = upS (ls N S (seq Y) (k + 1)) := by
  unfold step_main_v108_16
  rw [inn_up h hk, h.inv, h.loss]
  exact loss_row _ _ S

/-- The latents' rows so far. -/
theorem lat_up (h : At V N Y S k) (hk : k < 524288) (i : Fin 524288) (j : Fin 6) (hi : i.val < k + 1) :
    step_main_v108_17 V (ix2 i j) = ((st N (seq Y) (i.val + 1) j : ℝ) : EReal) := by
  unfold step_main_v108_17
  rw [xn_up h hk]
  refine (update_row (V (Proc.devRef .tc main_v108_17)) _ (at0 V) hk (at0_up h hk) i j).trans ?_
  by_cases e : i.val = k
  · rw [if_pos e, e]
    pointwise [upV]
  · rw [if_neg e]
    exact h.lat i j (by omega)

/-- A trip carries the loop one observation on. -/
theorem At.step (h : At V N Y S k) (hk : k < 524288) : At (STEP V) N Y S (k + 1) where
  y := (STEP_main_v108_0 V).trans h.y
  Wt1 := (STEP_main_v108_1 V).trans h.Wt1
  bt1 := (STEP_main_v108_2 V).trans h.bt1
  Wt2 := (STEP_main_v108_3 V).trans h.Wt2
  bt2 := (STEP_main_v108_4 V).trans h.bt2
  Wd1 := (STEP_main_v108_5 V).trans h.Wd1
  bd1 := (STEP_main_v108_6 V).trans h.bd1
  Wd2 := (STEP_main_v108_7 V).trans h.Wd2
  bd2 := (STEP_main_v108_8 V).trans h.bd2
  inv := (STEP_main_v108_9 V).trans h.inv
  We1 := (STEP_main_v108_10 V).trans h.We1
  be1 := (STEP_main_v108_11 V).trans h.be1
  We2 := (STEP_main_v108_12 V).trans h.We2
  be2 := (STEP_main_v108_13 V).trans h.be2
  ctr := (STEP_main_v108_14 V).trans (by
    unfold step_main_v108_14
    rw [h.ctr]
    funext _
    exact (BitVec.ofNat_add k 1).symm)
  x := (STEP_main_v108_15 V).trans (xn_up h hk)
  loss := (STEP_main_v108_16 V).trans (loss_up h hk)
  lat i j hi := (congrFun (STEP_main_v108_17 V) _).trans (lat_up h hk i j hi)

/-- After `k` trips. -/
theorem At.iter (h : At V N Y S 0) : ∀ k, k ≤ 524288 → At (STEP^[k] V) N Y S k
  | 0, _ => h
  | k + 1, hk => by
    rw [Function.iterate_succ_apply']
    exact (At.iter h k (by omega)).step (by omega)

end Cert.ReferenceIdeal.Hand

end
-- ==== Proof.RefEntry.lean ====
/-
  What the reference's loop starts from: the arguments, the inverse of the covariance by elimination, and zeros.
-/
module

public import proofs.«01_k».proof.Proof.RefRows
public import proofs.«01_k».proof.Proof.RefVal

@[expose] public section

set_option maxRecDepth 16384

noncomputable section

namespace Cert.ReferenceIdeal.Hand

open Idealize.ShloMosaic Idealize.ShloMosaic.TcCoe Idealize.ShloMosaic.StableHlo Idealize.SL.Sem
open Cert.ReferenceIdeal Cert.ReferenceIdeal.Gen Cert.ReferenceIdeal.Value Cert.Lift Cert.Elim Cert.Model

/-- The word of zero. -/
theorem ofBits_zero : Ideal.ofBits .f32 0x00000000#32 = ((0 : ℝ) : EReal) := by
  simp [Ideal.ofBits, Ideal.ieee]

/-- The determinant of the elimination's first rows is the matrix's. -/
theorem det_row0 (s : Fin 3 → Fin 3 → ℝ) : det (row0 s 0) (row0 s 1) (row0 s 2) = det3 s := by
  have h0 : ∀ i, row0 s i 0 = s i 0 := fun _ => rfl
  have h1 : ∀ i, row0 s i 1 = s i 1 := fun _ => rfl
  have h2 : ∀ i, row0 s i 2 = s i 2 := fun _ => rfl
  simp only [det, det3, h0, h1, h2]

/-- The elimination's first rows are the matrix's rows beside the unit matrix's. -/
theorem of_row0 (s : Fin 3 → Fin 3 → ℝ) (i : Fin 3) : Of s (row0 s i) := by
  have h0 : row0 s i 0 = s i 0 := rfl
  have h1 : row0 s i 1 = s i 1 := rfl
  have h2 : row0 s i 2 = s i 2 := rfl
  have h3 : row0 s i 3 = if i.val = 0 then 1 else 0 := rfl
  have h4 : row0 s i 4 = if i.val = 1 then 1 else 0 := rfl
  have h5 : row0 s i 5 = if i.val = 2 then 1 else 0 := rfl
  rw [Of, h0, h1, h2, h3, h4, h5]
  match i with
  | 0 => norm_num
  | 1 => norm_num
  | 2 => norm_num

variable (V : Valuation τ sig (Elt Ideal)) (Rm : Fin 3 → Fin 3 → ℝ)

/-- The contents after the operations before the last list. -/
def pre8 : Valuation τ sig (Elt Ideal) :=
  after hostOps0_8 (after hostOps0_7 (after hostOps0_6 (after hostOps0_5 (after hostOps0_4 (after hostOps0_3
    (after hostOps0_2 (after hostOps0_1 (after hostOps0 V))))))))

/-- The operations before the loop leave an argument. -/
theorem pre8_keep (r : Ref sig .tc) (h : r ∉ hostOps0_W ∧ r ∉ hostOps0_1_W ∧ r ∉ hostOps0_2_W ∧ r ∉ hostOps0_3_W ∧ r ∉ hostOps0_4_W
      ∧ r ∉ hostOps0_5_W ∧ r ∉ hostOps0_6_W ∧ r ∉ hostOps0_7_W ∧ r ∉ hostOps0_8_W) :
    pre8 V (Proc.devRef .tc r) = V (Proc.devRef .tc r) := by
  obtain ⟨h0, h1, h2, h3, h4, h5, h6, h7, h8⟩ := h
  unfold pre8
  rw [after_of_writes_sub _ _ hostOps0_8_writes h8, after_of_writes_sub _ _ hostOps0_7_writes h7,
    after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- The inverse of the covariance that the loop carries. -/
theorem inverse (h : V (Proc.devRef .tc main_arg14) = upM Rm) (hd : det3 (cov Rm) ≠ 0) :
    after hostOps0_9 (pre8 V) (Proc.devRef .tc main_v108_9) = upM (inv (cov Rm)) := by
  have hr : det (row0 (cov Rm) 0) (row0 (cov Rm) 1) (row0 (cov Rm) 2) ≠ 0 := by rwa [det_row0]
  have res := result hd (of_row0 _ 0) (of_row0 _ 1) (of_row0 _ 2) hr
  have n0 := p0_ne hr
  have n1 := p1_ne hr
  have n2 := p2_ne hr
  have a19 := w0_v19 V Rm h
  have a24 := w0_v24 V Rm h
  have a29 := w0_v29 V Rm h
  have a36 := w0_v36 V Rm h
  unfold pre8
  revert a19 a24 a29 a36
  generalize after hostOps0 V = V0
  generalize row0 (cov Rm) 0 = r₀ at *
  generalize row0 (cov Rm) 1 = r₁ at *
  generalize row0 (cov Rm) 2 = r₂ at *
  intro a19 a24 a29 a36
  have b37 : after hostOps0_1 V0 (Proc.devRef .tc main_v37) = upV (top 0 r₀ r₁) := w1 V0 _ a36 a24 a19
  have b36 := (after_of_writes_sub hostOps0_1 V0 hostOps0_1_writes (r := main_v36) (by decide +kernel)).trans a36
  have b24 := (after_of_writes_sub hostOps0_1 V0 hostOps0_1_writes (r := main_v24) (by decide +kernel)).trans a24
  have b19 := (after_of_writes_sub hostOps0_1 V0 hostOps0_1_writes (r := main_v19) (by decide +kernel)).trans a19
  have b29 := (after_of_writes_sub hostOps0_1 V0 hostOps0_1_writes (r := main_v29) (by decide +kernel)).trans a29
  revert b37 b36 b24 b19 b29
  generalize after hostOps0_1 V0 = V1
  intro b37 b36 b24 b19 b29
  have c38 : after hostOps0_2 V1 (Proc.devRef .tc main_v38) = upV (bot 0 r₀ r₁) := w2 V1 _ b36 b19 b24
  have c37 := (after_of_writes_sub hostOps0_2 V1 hostOps0_2_writes (r := main_v37) (by decide +kernel)).trans b37
  have c29 := (after_of_writes_sub hostOps0_2 V1 hostOps0_2_writes (r := main_v29) (by decide +kernel)).trans b29
  revert c38 c37 c29
  generalize after hostOps0_2 V1 = V2
  intro c38 c37 c29
  have d45 := w3 V2 c29 c37
  have d38 := (after_of_writes_sub hostOps0_3 V2 hostOps0_3_writes (r := main_v38) (by decide +kernel)).trans c38
  have d37 := (after_of_writes_sub hostOps0_3 V2 hostOps0_3_writes (r := main_v37) (by decide +kernel)).trans c37
  have d29 := (after_of_writes_sub hostOps0_3 V2 hostOps0_3_writes (r := main_v29) (by decide +kernel)).trans c29
  revert d45 d38 d37 d29
  generalize after hostOps0_3 V2 = V3
  intro d45 d38 d37 d29
  have e46 : after hostOps0_4 V3 (Proc.devRef .tc main_v46) = upV (p0 r₀ r₁ r₂) := w4 V3 _ d45 d29 d37
  have e45 := (after_of_writes_sub hostOps0_4 V3 hostOps0_4_writes (r := main_v45) (by decide +kernel)).trans d45
  have e38 := (after_of_writes_sub hostOps0_4 V3 hostOps0_4_writes (r := main_v38) (by decide +kernel)).trans d38
  have e37 := (after_of_writes_sub hostOps0_4 V3 hostOps0_4_writes (r := main_v37) (by decide +kernel)).trans d37
  have e29 := (after_of_writes_sub hostOps0_4 V3 hostOps0_4_writes (r := main_v29) (by decide +kernel)).trans d29
  revert e46 e45 e38 e37 e29
  generalize after hostOps0_4 V3 = V4
  intro e46 e45 e38 e37 e29
  have f47 : after hostOps0_5 V4 (Proc.devRef .tc main_v47) = upV (q2 r₀ r₁ r₂) := w5 V4 _ e45 e37 e29
  have f46 := (after_of_writes_sub hostOps0_5 V4 hostOps0_5_writes (r := main_v46) (by decide +kernel)).trans e46
  have f38 := (after_of_writes_sub hostOps0_5 V4 hostOps0_5_writes (r := main_v38) (by decide +kernel)).trans e38
  revert f47 f46 f38
  generalize after hostOps0_5 V4 = V5
  intro f47 f46 f38
  have g51 : after hostOps0_6 V5 (Proc.devRef .tc main_v51) = upV (u0 r₀ r₁ r₂) := w6_v51 V5 f46 n0
  have g56 : after hostOps0_6 V5 (Proc.devRef .tc main_v56) = upV (e1 r₀ r₁ r₂) := w6_v56 V5 f46 n0 f38
  have g61 : after hostOps0_6 V5 (Proc.devRef .tc main_v61) = upV (e2 r₀ r₁ r₂) := w6_v61 V5 f46 n0 f47
  have g68 : after hostOps0_6 V5 (Proc.devRef .tc main_v68)
      = fun _ => if |e1 r₀ r₁ r₂ 1| < |e2 r₀ r₁ r₂ 1| then 1#1 else 0#1 := w6_v68 V5 f46 n0 f38 f47
  revert g51 g56 g61 g68
  generalize after hostOps0_6 V5 = V6
  intro g51 g56 g61 g68
  have k69 : after hostOps0_7 V6 (Proc.devRef .tc main_v69) = upV (p1 r₀ r₁ r₂) := w7 V6 _ g68 g61 g56
  have k68 := (after_of_writes_sub hostOps0_7 V6 hostOps0_7_writes (r := main_v68) (by decide +kernel)).trans g68
  have k61 := (after_of_writes_sub hostOps0_7 V6 hostOps0_7_writes (r := main_v61) (by decide +kernel)).trans g61
  have k56 := (after_of_writes_sub hostOps0_7 V6 hostOps0_7_writes (r := main_v56) (by decide +kernel)).trans g56
  have k51 := (after_of_writes_sub hostOps0_7 V6 hostOps0_7_writes (r := main_v51) (by decide +kernel)).trans g51
  revert k69 k68 k61 k56 k51
  generalize after hostOps0_7 V6 = V7
  intro k69 k68 k61 k56 k51
  have l70 : after hostOps0_8 V7 (Proc.devRef .tc main_v70) = upV (q3 r₀ r₁ r₂) := w8 V7 _ k68 k56 k61
  have l69 := (after_of_writes_sub hostOps0_8 V7 hostOps0_8_writes (r := main_v69) (by decide +kernel)).trans k69
  have l51 := (after_of_writes_sub hostOps0_8 V7 hostOps0_8_writes (r := main_v51) (by decide +kernel)).trans k51
  revert l70 l69 l51
  generalize after hostOps0_8 V7 = V8
  intro l70 l69 l51
  exact w9_inv V8 l69 n1 l51 l70 n2 _ fun
    | 0 => res 0
    | 1 => res 1
    | 2 => res 2

/-- The loop starts with the arguments. -/
theorem slots (W : Valuation τ sig (Elt Ideal)) :
    after hostOps0_9 W (Proc.devRef .tc main_v108_0) = W (Proc.devRef .tc main_arg0)
    ∧ after hostOps0_9 W (Proc.devRef .tc main_v108_1) = W (Proc.devRef .tc main_arg5)
    ∧ after hostOps0_9 W (Proc.devRef .tc main_v108_2) = W (Proc.devRef .tc main_arg6)
    ∧ after hostOps0_9 W (Proc.devRef .tc main_v108_3) = W (Proc.devRef .tc main_arg7)
    ∧ after hostOps0_9 W (Proc.devRef .tc main_v108_4) = W (Proc.devRef .tc main_arg8)
    ∧ after hostOps0_9 W (Proc.devRef .tc main_v108_5) = W (Proc.devRef .tc main_arg9)
    ∧ after hostOps0_9 W (Proc.devRef .tc main_v108_6) = W (Proc.devRef .tc main_arg10)
    ∧ after hostOps0_9 W (Proc.devRef .tc main_v108_7) = W (Proc.devRef .tc main_arg11)
    ∧ after hostOps0_9 W (Proc.devRef .tc main_v108_8) = W (Proc.devRef .tc main_arg12)
    ∧ after hostOps0_9 W (Proc.devRef .tc main_v108_10) = W (Proc.devRef .tc main_arg1)
    ∧ after hostOps0_9 W (Proc.devRef .tc main_v108_11) = W (Proc.devRef .tc main_arg2)
    ∧ after hostOps0_9 W (Proc.devRef .tc main_v108_12) = W (Proc.devRef .tc main_arg3)
    ∧ after hostOps0_9 W (Proc.devRef .tc main_v108_13) = W (Proc.devRef .tc main_arg4)
    ∧ after hostOps0_9 W (Proc.devRef .tc main_v108_14) = (fun _ => 0#32)
    ∧ after hostOps0_9 W (Proc.devRef .tc main_v108_15) = (upV fun _ => 0 : FVec Ideal S6 .f32)
    ∧ after hostOps0_9 W (Proc.devRef .tc main_v108_16) = (upS 0 : FVec Ideal S_ .f32) := by
  refine ⟨?_, ?_, ?_, ?_, ?_, ?_, ?_, ?_, ?_, ?_, ?_, ?_, ?_, ?_, ?_, ?_⟩ <;> after_reads_simp
  any_goals rfl
  · funext i
    idx_vars i
    pointwise [upV]
    exact ofBits_zero
  · funext i
    pointwise [upS]
    exact ofBits_zero

variable (m : (ℓ : Loc nD τ sig) → Buf (Elt Ideal) ℓ) (c : Dev nD)

/-- The arguments on a device are the arrays of a network, a sequence and a covariance of real numbers. -/
structure Args (N : Net) (Y : Fin 524288 → Fin 3 → ℝ) (Rm : Fin 3 → Fin 3 → ℝ) : Prop where
  y : m ((c.tc : Thread nD τ).loc main_arg0) = upM Y
  We1 : m ((c.tc : Thread nD τ).loc main_arg1) = upM N.We1
  be1 : m ((c.tc : Thread nD τ).loc main_arg2) = upV N.be1
  We2 : m ((c.tc : Thread nD τ).loc main_arg3) = upM N.We2
  be2 : m ((c.tc : Thread nD τ).loc main_arg4) = upV N.be2
  Wt1 : m ((c.tc : Thread nD τ).loc main_arg5) = upM N.Wt1
  bt1 : m ((c.tc : Thread nD τ).loc main_arg6) = upV N.bt1
  Wt2 : m ((c.tc : Thread nD τ).loc main_arg7) = upM N.Wt2
  bt2 : m ((c.tc : Thread nD τ).loc main_arg8) = upV N.bt2
  Wd1 : m ((c.tc : Thread nD τ).loc main_arg9) = upM N.Wd1
  bd1 : m ((c.tc : Thread nD τ).loc main_arg10) = upV N.bd1
  Wd2 : m ((c.tc : Thread nD τ).loc main_arg11) = upM N.Wd2
  bd2 : m ((c.tc : Thread nD τ).loc main_arg12) = upV N.bd2
  R : m ((c.tc : Thread nD τ).loc main_arg14) = upM Rm

variable {m c} {N : Net} {Y : Fin 524288 → Fin 3 → ℝ} {Rm : Fin 3 → Fin 3 → ℝ}

/-- The loop's entry. -/
theorem entry_at (h : Args m c N Y Rm) (hd : det3 (cov Rm) ≠ 0) : At (entryContents preI m c) N Y (inv (cov Rm)) 0 := by
  have e : entryContents preI m c = after hostOps0_9 (pre8 (fun b => m (c, b))) := by
    simp only [entryContents, afterL_cons, afterL_nil]
    rfl
  rw [e]
  obtain ⟨s0, s1, s2, s3, s4, s5, s6, s7, s8, s10, s11, s12, s13, s14, s15, s16⟩ := slots (pre8 (fun b => m (c, b)))
  exact
    { y := s0.trans ((pre8_keep _ main_arg0 (by decide +kernel)).trans h.y)
      Wt1 := s1.trans ((pre8_keep _ main_arg5 (by decide +kernel)).trans h.Wt1)
      bt1 := s2.trans ((pre8_keep _ main_arg6 (by decide +kernel)).trans h.bt1)
      Wt2 := s3.trans ((pre8_keep _ main_arg7 (by decide +kernel)).trans h.Wt2)
      bt2 := s4.trans ((pre8_keep _ main_arg8 (by decide +kernel)).trans h.bt2)
      Wd1 := s5.trans ((pre8_keep _ main_arg9 (by decide +kernel)).trans h.Wd1)
      bd1 := s6.trans ((pre8_keep _ main_arg10 (by decide +kernel)).trans h.bd1)
      Wd2 := s7.trans ((pre8_keep _ main_arg11 (by decide +kernel)).trans h.Wd2)
      bd2 := s8.trans ((pre8_keep _ main_arg12 (by decide +kernel)).trans h.bd2)
      inv := inverse _ Rm h.R hd
      We1 := s10.trans ((pre8_keep _ main_arg1 (by decide +kernel)).trans h.We1)
      be1 := s11.trans ((pre8_keep _ main_arg2 (by decide +kernel)).trans h.be1)
      We2 := s12.trans ((pre8_keep _ main_arg3 (by decide +kernel)).trans h.We2)
      be2 := s13.trans ((pre8_keep _ main_arg4 (by decide +kernel)).trans h.be2)
      ctr := s14
      x := s15
      loss := s16
      lat := fun i j hi => absurd hi (Nat.not_lt_zero _) }

/-- The reference's latents are the model's states. -/
theorem out_lat (h : Args m c N Y Rm) (hd : det3 (cov Rm) ≠ 0) :
    (STEP^[524288] (entryContents preI m c)) (Proc.devRef .tc main_v108_17)
      = (upM fun r : Fin 524288 => st N (seq Y) (r.val + 1) : FVec Ideal S524288x6 .f32) := by
  have a := At.iter (entry_at h hd) 524288 (Nat.le_refl _)
  funext i
  idx_vars i
  exact a.lat i0 i1 i0.isLt

/-- The reference's loss is the model's over the number of observations. -/
theorem out_loss (h : Args m c N Y Rm) (hd : det3 (cov Rm) ≠ 0) :
    out_main_v110 (STEP^[524288] (entryContents preI m c))
      = (upM fun _ _ : Fin 1 => ls N (inv (cov Rm)) (seq Y) 524288 / 524288 : FVec Ideal S1x1 .f32) := by
  have a := At.iter (entry_at h hd) 524288 (Nat.le_refl _)
  unfold out_main_v110
  rw [a.loss]
  generalize ls N (inv (cov Rm)) (seq Y) 524288 = x
  clean_types
  funext i
  idx_vars i
  pointwise [upM, upS]
  rw [ofBits_count]
  exact coe_div _ _ (by norm_num)

end Cert.ReferenceIdeal.Hand

end
-- ==== Proof.Algebraic.lean ====
/-
  The algebraic claim: over the extended reals, at arguments the precondition allows, the kernel and the reference leave
  the same loss and the same latents, which are the model's.
-/
module

public import proofs.«01_k».proof.Defs
public import proofs.«01_k».proof.Proof.IdealFrame
public import proofs.«01_k».proof.Proof.KerVal
public import proofs.«01_k».proof.Proof.RefEntry
public import proofs.«01_k».proof.Proof.Regular

@[expose] public section

set_option maxRecDepth 16384

noncomputable section

namespace Cert.Algebraic

open Idealize.ShloMosaic Idealize.SL.Sem Cert.Lift Cert.Model

section Kernel
open Cert.KernelIdeal Cert.KernelIdeal.Gen Cert.KernelIdeal.Hand

/-- A run of the kernel leaves its two outputs' arrays and its arguments. -/
theorem kernel_run (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_v6_0) = (dats m 0 c).arrAt 14 cfg0.N
        ∧ r.2.mem ((c.tc : Thread nD τ).loc main_v6_1) = (dats m 0 c).arrAt 15 cfg0.N) :=
  (θ_run defs _ _).mono (fun _ h c => ⟨(h.1 c).1 14, (h.1 c).1 15⟩) (run_quiet m ρ)

end Kernel

/-- The kernel and the reference agree on both results. -/
theorem algebraic : Cert.algebraic_KernelIdeal_ReferenceIdeal_pre_regular := by
  intro m g m' g' hpre hm
  refine ⟨fun c => (Cert.KernelIdeal.Hand.dats m 0 c).arrAt 14 Cert.KernelIdeal.cfg0.N,
    fun c => (Cert.KernelIdeal.Hand.dats m 0 c).arrAt 15 Cert.KernelIdeal.cfg0.N, ?_, ?_⟩
  · exact (θ_run Cert.KernelIdeal.defs _ _).mono (fun _ h c => ⟨(h.1 c).1, (h.1 c).2, h.2.1 c⟩)
      (θ_run_and (kernel_run m g) (Cert.KernelIdeal.Hand.frame m g))
  · refine (θ_run Cert.ReferenceIdeal.defs _ _).mono (fun _ h c => ?_) (Cert.ReferenceIdeal.Value.run m' g')
    obtain ⟨N, Y, Rm, hK, hd⟩ := Cert.Regular.args hpre c
    obtain ⟨e0, e1, e2, e3, e4, e5, e6, e7, e8, e9, e10, e11, e12, _, e14⟩ := hm c
    have hR : Cert.ReferenceIdeal.Hand.Args m' c N Y Rm :=
      ⟨e0.trans hK.y, e1.trans hK.We1, e2.trans hK.be1, e3.trans hK.We2, e4.trans hK.be2, e5.trans hK.Wt1, e6.trans hK.bt1,
        e7.trans hK.Wt2, e8.trans hK.bt2, e9.trans hK.Wd1, e10.trans hK.bd1, e11.trans hK.Wd2, e12.trans hK.bd2, e14.trans hK.R⟩
    obtain ⟨hloss, hlat, hargs⟩ := h c
    exact ⟨hloss.trans ((Cert.ReferenceIdeal.Hand.out_loss hR hd).trans (Cert.KernelIdeal.Hand.out_loss hK hd).symm),
      hlat.trans ((Cert.ReferenceIdeal.Hand.out_lat hR hd).trans (Cert.KernelIdeal.Hand.out_lat hK hd).symm), hargs⟩

end Cert.Algebraic

end
-- ==== Proof.lean ====
module

public import proofs.«01_k».proof.Defs
public import proofs.«01_k».proof.Proof.Gen.Kernel
public import proofs.«01_k».proof.Proof.BitsFrame
public import proofs.«01_k».proof.Proof.IdealFrame
public import proofs.«01_k».proof.Proof.RefFrame
public import proofs.«01_k».proof.Proof.Regular
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Regular.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Hand.frame m ρ,
  fun m ρ _ => Cert.ReferenceIdeal.Hand.frame m ρ,
  trivial,
  Cert.Algebraic.algebraic⟩

end Cert.Proof

end
